-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v39)) (v1 : (c : Dev Cert.KernelIdeal.nD) → Buf (Elt Ideal) ((c.tc : Thread Cert.KernelIdeal.nD Cert.KernelIdeal.τ).loc Cert.KernelIdeal.main_v44)) (v2 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v39) = v0 c
          ∧ r.2.mem ((c.tc : Thread Cert.KernelIdeal.nD Cert.KernelIdeal.τ).loc Cert.KernelIdeal.main_v44) = v1 c
          ∧ r.2.mem ((c.tc : Thread Cert.KernelIdeal.nD Cert.KernelIdeal.τ).loc Cert.KernelIdeal.main_v45) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v45) = v1 c
          ∧ r.2.mem ((c.tc : Thread Cert.ReferenceIdeal.nD Cert.ReferenceIdeal.τ).loc Cert.ReferenceIdeal.main_v46) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x32x32x32 : Shape := ⟨4, ![4, 32, 32, 32]⟩
abbrev S8192x32 : Shape := ⟨2, ![8192, 32]⟩
abbrev S8192 : Shape := ⟨1, ![8192]⟩
abbrev S4096x32 : Shape := ⟨2, ![4096, 32]⟩
abbrev S4096 : Shape := ⟨1, ![4096]⟩
abbrev S1024x32 : Shape := ⟨2, ![1024, 32]⟩
abbrev S4096x1 : Shape := ⟨2, ![4096, 1]⟩
abbrev S1024 : Shape := ⟨1, ![1024]⟩
abbrev S4096x1024 : Shape := ⟨2, ![4096, 1024]⟩
abbrev S1x1024 : Shape := ⟨2, ![1, 1024]⟩
abbrev S_ : Shape := ⟨0, ![]⟩
abbrev S8192x1 : Shape := ⟨2, ![8192, 1]⟩
abbrev S1 : Shape := ⟨1, ![1]⟩
abbrev S1x1 : Shape := ⟨2, ![1, 1]⟩
abbrev S4x32x32 : Shape := ⟨3, ![4, 32, 32]⟩

abbrev nBuf : Space → Nat
  | .hbm => 87
  | .vmem => 6
  | .smem => 0
  | _ => 0

abbrev bufTy : (tb : Table) → Fin (tcTables nBuf tb) → BufTy
  | .hbm, ⟨0, _⟩ => ⟨S4x32x32x32, .f32⟩
  | .hbm, ⟨1, _⟩ => ⟨S8192x32, .f32⟩
  | .hbm, ⟨2, _⟩ => ⟨S8192, .f32⟩
  | .hbm, ⟨3, _⟩ => ⟨S8192x32, .f32⟩
  | .hbm, ⟨4, _⟩ => ⟨S4x32x32x32, .f32⟩
  | .hbm, ⟨5, _⟩ => ⟨S4096x32, .f32⟩
  | .hbm, ⟨6, _⟩ => ⟨S4096, .i32⟩
  | .hbm, ⟨7, _⟩ => ⟨S_, .f32⟩
  | .hbm, ⟨8, _⟩ => ⟨S8192, .f32⟩
  | .hbm, ⟨9, _⟩ => ⟨S_, .i32⟩
  | .hbm, ⟨10, _⟩ => ⟨S4096, .i32⟩
  | .hbm, ⟨11, _⟩ => ⟨S4096, .i1⟩
  | .hbm, ⟨12, _⟩ => ⟨S_, .i32⟩
  | .hbm, ⟨13, _⟩ => ⟨S4096, .i32⟩
  | .hbm, ⟨14, _⟩ => ⟨S4096, .i32⟩
  | .hbm, ⟨15, _⟩ => ⟨S4096, .i32⟩
  | .hbm, ⟨16, _⟩ => ⟨S4096x1, .i32⟩
  | .hbm, ⟨17, _⟩ => ⟨S_, .f32⟩
  | .hbm, ⟨18, _⟩ => ⟨S4096, .f32⟩
  | .hbm, ⟨19, _⟩ => ⟨S8192, .f32⟩
  | .hbm, ⟨20, _⟩ => ⟨S_, .f32⟩
  | .hbm, ⟨21, _⟩ => ⟨S8192x32, .f32⟩
  | .hbm, ⟨22, _⟩ => ⟨S_, .i32⟩
  | .hbm, ⟨23, _⟩ => ⟨S4096, .i32⟩
  | .hbm, ⟨24, _⟩ => ⟨S4096, .i1⟩
  | .hbm, ⟨25, _⟩ => ⟨S_, .i32⟩
  | .hbm, ⟨26, _⟩ => ⟨S4096, .i32⟩
  | .hbm, ⟨27, _⟩ => ⟨S4096, .i32⟩
  | .hbm, ⟨28, _⟩ => ⟨S4096, .i32⟩
  | .hbm, ⟨29, _⟩ => ⟨S4096x1, .i32⟩
  | .hbm, ⟨30, _⟩ => ⟨S8192x32, .f32⟩
  | .hbm, ⟨31, _⟩ => ⟨S_, .f32⟩
  | .hbm, ⟨32, _⟩ => ⟨S8192, .f32⟩
  | .hbm, ⟨33, _⟩ => ⟨S8192, .f32⟩
  | .hbm, ⟨34, _⟩ => ⟨S_, .f32⟩
  | .hbm, ⟨35, _⟩ => ⟨S8192, .f32⟩
  | .hbm, ⟨36, _⟩ => ⟨S8192, .f32⟩
  | .hbm, ⟨37, _⟩ => ⟨S8192, .f32⟩
  | .hbm, ⟨38, _⟩ => ⟨S_, .f32⟩
  | .hbm, ⟨39, _⟩ => ⟨S8192x32, .f32⟩
  | .hbm, ⟨40, _⟩ => ⟨S8192x32, .f32⟩
  | .hbm, ⟨41, _⟩ => ⟨S_, .f32⟩
  | .hbm, ⟨42, _⟩ => ⟨S8192x32, .f32⟩
  | .hbm, ⟨43, _⟩ => ⟨S8192x32, .f32⟩
  | .hbm, ⟨44, _⟩ => ⟨S8192x32, .f32⟩
  | .hbm, ⟨45, _⟩ => ⟨S_, .f32⟩
  | .hbm, ⟨46, _⟩ => ⟨S8192, .f32⟩
  | .hbm, ⟨47, _⟩ => ⟨S8192, .f32⟩
  | .hbm, ⟨48, _⟩ => ⟨S8192x1, .f32⟩
  | .hbm, ⟨49, _⟩ => ⟨S8192x32, .f32⟩
  | .hbm, ⟨50, _⟩ => ⟨S8192x32, .f32⟩
  | .hbm, ⟨51, _⟩ => ⟨S_, .i32⟩
  | .hbm, ⟨52, _⟩ => ⟨S4096, .i32⟩
  | .hbm, ⟨53, _⟩ => ⟨S4096, .i1⟩
  | .hbm, ⟨54, _⟩ => ⟨S_, .i32⟩
  | .hbm, ⟨55, _⟩ => ⟨S4096, .i32⟩
  | .hbm, ⟨56, _⟩ => ⟨S4096, .i32⟩
  | .hbm, ⟨57, _⟩ => ⟨S4096, .i32⟩
  | .hbm, ⟨58, _⟩ => ⟨S4096x1, .i32⟩
  | .hbm, ⟨59, _⟩ => ⟨S1, .i32⟩
  | .hbm, ⟨60, _⟩ => ⟨S_, .i32⟩
  | .hbm, ⟨61, _⟩ => ⟨S4096x1, .i32⟩
  | .hbm, ⟨62, _⟩ => ⟨S4096x1, .i1⟩
  | .hbm, ⟨63, _⟩ => ⟨S1x1, .i32⟩
  | .hbm, ⟨64, _⟩ => ⟨S4096x1, .i32⟩
  | .hbm, ⟨65, _⟩ => ⟨S4096x1, .i1⟩
  | .hbm, ⟨66, _⟩ => ⟨S4096x1, .i1⟩
  | .hbm, ⟨67, _⟩ => ⟨S_, .i1⟩
  | .hbm, ⟨68, _⟩ => ⟨S4096, .i1⟩
  | .hbm, ⟨69, _⟩ => ⟨S4096x32, .f32⟩
  | .hbm, ⟨70, _⟩ => ⟨S4096x32, .i1⟩
  | .hbm, ⟨71, _⟩ => ⟨S_, .f32⟩
  | .hbm, ⟨72, _⟩ => ⟨S4096x32, .f32⟩
  | .hbm, ⟨73, _⟩ => ⟨S4096x32, .f32⟩
  | .hbm, ⟨74, _⟩ => ⟨S4x32x32x32, .f32⟩
  | .hbm, ⟨75, _⟩ => ⟨S4x32x32x32, .f32⟩
  | .hbm, ⟨76, _⟩ => ⟨S4x32x32x32, .f32⟩
  | .hbm, ⟨77, _⟩ => ⟨S4x32x32x32, .f32⟩
  | .hbm, ⟨78, _⟩ => ⟨S4x32x32x32, .f32⟩
  | .hbm, ⟨79, _⟩ => ⟨S4x32x32x32, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S4x32x32, .i32⟩
  | .local _ .vmem, ⟨0, _⟩ => ⟨S4096x32, .f32⟩
  | .local _ .vmem, ⟨1, _⟩ => ⟨S1024x32, .f32⟩
  | .local _ .vmem, ⟨2, _⟩ => ⟨S1024x32, .f32⟩
  | .local _ .vmem, ⟨3, _⟩ => ⟨S4096, .i32⟩
  | .local _ .vmem, ⟨4, _⟩ => ⟨S4096, .f32⟩
  | .local _ .vmem, ⟨5, _⟩ => ⟨S4096, .i32⟩
  | _, _ => ⟨S4x32x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_c_3 : Ref sig .tc := ⟨.hbm, 22, rfl⟩
abbrev main_v13 : Ref sig .tc := ⟨.hbm, 23, rfl⟩
abbrev main_v14 : Ref sig .tc := ⟨.hbm, 24, rfl⟩
abbrev main_c_4 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_5 : Ref sig .tc := ⟨.hbm, 31, rfl⟩
abbrev main_v20 : Ref sig .tc := ⟨.hbm, 32, rfl⟩
abbrev main_v21 : Ref sig .tc := ⟨.hbm, 33, rfl⟩
abbrev main_cst_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_7 : Ref sig .tc := ⟨.hbm, 38, rfl⟩
abbrev main_v25 : Ref sig .tc := ⟨.hbm, 39, rfl⟩
abbrev main_v26 : Ref sig .tc := ⟨.hbm, 40, rfl⟩
abbrev main_cst_8 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_cst_9 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_call0_c : Ref sig .tc := ⟨.hbm, 51, rfl⟩
abbrev main_call0_v0 : Ref sig .tc := ⟨.hbm, 52, rfl⟩
abbrev main_call0_v1 : Ref sig .tc := ⟨.hbm, 53, rfl⟩
abbrev main_call0_c_0 : Ref sig .tc := ⟨.hbm, 54, rfl⟩
abbrev main_call0_v2 : Ref sig .tc := ⟨.hbm, 55, rfl⟩
abbrev main_call0_v3 : Ref sig .tc := ⟨.hbm, 56, rfl⟩
abbrev main_call0_v4 : Ref sig .tc := ⟨.hbm, 57, rfl⟩
abbrev main_call0_v5 : Ref sig .tc := ⟨.hbm, 58, rfl⟩
abbrev main_call0_c_1 : Ref sig .tc := ⟨.hbm, 59, rfl⟩
abbrev main_call0_c_2 : Ref sig .tc := ⟨.hbm, 60, rfl⟩
abbrev main_call0_v6 : Ref sig .tc := ⟨.hbm, 61, rfl⟩
abbrev main_call0_v7 : Ref sig .tc := ⟨.hbm, 62, rfl⟩
abbrev main_call0_v8 : Ref sig .tc := ⟨.hbm, 63, rfl⟩
abbrev main_call0_v9 : Ref sig .tc := ⟨.hbm, 64, rfl⟩
abbrev main_call0_v10 : Ref sig .tc := ⟨.hbm, 65, rfl⟩
abbrev main_call0_v11 : Ref sig .tc := ⟨.hbm, 66, rfl⟩
abbrev main_call0_c_3 : Ref sig .tc := ⟨.hbm, 67, rfl⟩
abbrev main_call0_v12 : Ref sig .tc := ⟨.hbm, 68, rfl⟩
abbrev main_call0_v13 : Ref sig .tc := ⟨.hbm, 69, rfl⟩
abbrev main_call0_v14 : Ref sig .tc := ⟨.hbm, 70, rfl⟩
abbrev main_call0_cst : Ref sig .tc := ⟨.hbm, 71, rfl⟩
abbrev main_call0_v15 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_cst_10 : Ref sig .tc := ⟨.hbm, 80, rfl⟩
abbrev main_v42 : Ref sig .tc := ⟨.hbm, 81, rfl⟩
abbrev main_cst_11 : Ref sig .tc := ⟨.hbm, 82, rfl⟩
abbrev main_v43 : Ref sig .tc := ⟨.hbm, 83, rfl⟩
abbrev main_cst_12 : Ref sig .tc := ⟨.hbm, 84, rfl⟩
abbrev main_v44 : Ref sig .tc := ⟨.hbm, 85, rfl⟩
abbrev main_v45 : Ref sig .tc := ⟨.hbm, 86, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v42 : BitVec 1 := Scalar.cmpi .eq arg0 c7_i32
  let v43 : BitVec 32 := Scalar.extui v42
  let c0_i32_14 : BitVec 32 := 0#32
  let v44 : BitVec 1 := Scalar.cmpi .ne v43 c0_i32_14
  v44

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

abbrev stage0_0 : Fin 1 → Memref sig .tc .vmem S4096x32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1024x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4096 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S4x32x32x32 : Shape := ⟨4, ![4, 32, 32, 32]⟩
abbrev S8192x32 : Shape := ⟨2, ![8192, 32]⟩
abbrev S8192 : Shape := ⟨1, ![8192]⟩
abbrev S4096x32 : Shape := ⟨2, ![4096, 32]⟩
abbrev S_ : Shape := ⟨0, ![]⟩
abbrev S4096 : Shape := ⟨1, ![4096]⟩
abbrev S4096x1 : Shape := ⟨2, ![4096, 1]⟩
abbrev S1x8192 : Shape := ⟨2, ![1, 8192]⟩
abbrev S4096x8192 : Shape := ⟨2, ![4096, 8192]⟩
abbrev S32x8192 : Shape := ⟨2, ![32, 8192]⟩
abbrev S8192x4096 : Shape := ⟨2, ![8192, 4096]⟩
abbrev S8192x1 : Shape := ⟨2, ![8192, 1]⟩
abbrev S1 : Shape := ⟨1, ![1]⟩
abbrev S1x1 : Shape := ⟨2, ![1, 1]⟩
abbrev S4x32x32 : Shape := ⟨3, ![4, 32, 32]⟩

abbrev nBuf : Space → Nat
  | .hbm => 94
  | .vmem => 0
  | .smem => 0
  | _ => 0

abbrev bufTy : (tb : Table) → Fin (tcTables nBuf tb) → BufTy
  | .hbm, ⟨0, _⟩ => ⟨S4x32x32x32, .f32⟩
  | .hbm, ⟨1, _⟩ => ⟨S8192x32, .f32⟩
  | .hbm, ⟨2, _⟩ => ⟨S8192, .f32⟩
  | .hbm, ⟨3, _⟩ => ⟨S8192x32, .f32⟩
  | .hbm, ⟨4, _⟩ => ⟨S4x32x32x32, .f32⟩
  | .hbm, ⟨5, _⟩ => ⟨S4096x32, .f32⟩
  | .hbm, ⟨6, _⟩ => ⟨S4096x32, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S8192x32, .f32⟩
  | .hbm, ⟨11, _⟩ => ⟨S_, .f32⟩
  | .hbm, ⟨12, _⟩ => ⟨S8192, .f32⟩
  | .hbm, ⟨13, _⟩ => ⟨S1x8192, .f32⟩
  | .hbm, ⟨14, _⟩ => ⟨S4096x8192, .f32⟩
  | .hbm, ⟨15, _⟩ => ⟨S4096x8192, .f32⟩
  | .hbm, ⟨16, _⟩ => ⟨S4096x8192, .f32⟩
  | .hbm, ⟨17, _⟩ => ⟨S_, .f32⟩
  | .hbm, ⟨18, _⟩ => ⟨S4096x32, .f32⟩
  | .hbm, ⟨19, _⟩ => ⟨S4096x32, .f32⟩
  | .hbm, ⟨20, _⟩ => ⟨S32x8192, .f32⟩
  | .hbm, ⟨21, _⟩ => ⟨S4096x8192, .f32⟩
  | .hbm, ⟨22, _⟩ => ⟨S4096x8192, .f32⟩
  | .hbm, ⟨23, _⟩ => ⟨S4096x8192, .i32⟩
  | .hbm, ⟨24, _⟩ => ⟨S_, .f32⟩
  | .hbm, ⟨25, _⟩ => ⟨S_, .i32⟩
  | .hbm, ⟨26, _⟩ => ⟨S4096, .f32⟩
  | .hbm, ⟨27, _⟩ => ⟨S4096, .i32⟩
  | .hbm, ⟨28, _⟩ => ⟨S4096x1, .i32⟩
  | .hbm, ⟨29, _⟩ => ⟨S1x8192, .i32⟩
  | .hbm, ⟨30, _⟩ => ⟨S4096x8192, .i32⟩
  | .hbm, ⟨31, _⟩ => ⟨S4096x8192, .i32⟩
  | .hbm, ⟨32, _⟩ => ⟨S4096x8192, .i1⟩
  | .hbm, ⟨33, _⟩ => ⟨S4096x8192, .f32⟩
  | .hbm, ⟨34, _⟩ => ⟨S_, .f32⟩
  | .hbm, ⟨35, _⟩ => ⟨S8192, .f32⟩
  | .hbm, ⟨36, _⟩ => ⟨S_, .f32⟩
  | .hbm, ⟨37, _⟩ => ⟨S8192, .f32⟩
  | .hbm, ⟨38, _⟩ => ⟨S8192, .f32⟩
  | .hbm, ⟨39, _⟩ => ⟨S_, .f32⟩
  | .hbm, ⟨40, _⟩ => ⟨S8192, .f32⟩
  | .hbm, ⟨41, _⟩ => ⟨S8192, .f32⟩
  | .hbm, ⟨42, _⟩ => ⟨S8192, .f32⟩
  | .hbm, ⟨43, _⟩ => ⟨S8192x4096, .f32⟩
  | .hbm, ⟨44, _⟩ => ⟨S8192x32, .f32⟩
  | .hbm, ⟨45, _⟩ => ⟨S_, .f32⟩
  | .hbm, ⟨46, _⟩ => ⟨S8192x32, .f32⟩
  | .hbm, ⟨47, _⟩ => ⟨S8192x32, .f32⟩
  | .hbm, ⟨48, _⟩ => ⟨S_, .f32⟩
  | .hbm, ⟨49, _⟩ => ⟨S8192x32, .f32⟩
  | .hbm, ⟨50, _⟩ => ⟨S8192x32, .f32⟩
  | .hbm, ⟨51, _⟩ => ⟨S8192x32, .f32⟩
  | .hbm, ⟨52, _⟩ => ⟨S_, .f32⟩
  | .hbm, ⟨53, _⟩ => ⟨S8192, .f32⟩
  | .hbm, ⟨54, _⟩ => ⟨S8192, .f32⟩
  | .hbm, ⟨55, _⟩ => ⟨S8192x1, .f32⟩
  | .hbm, ⟨56, _⟩ => ⟨S8192x32, .f32⟩
  | .hbm, ⟨57, _⟩ => ⟨S8192x32, .f32⟩
  | .hbm, ⟨58, _⟩ => ⟨S_, .i32⟩
  | .hbm, ⟨59, _⟩ => ⟨S4096, .i32⟩
  | .hbm, ⟨60, _⟩ => ⟨S4096, .i1⟩
  | .hbm, ⟨61, _⟩ => ⟨S_, .i32⟩
  | .hbm, ⟨62, _⟩ => ⟨S4096, .i32⟩
  | .hbm, ⟨63, _⟩ => ⟨S4096, .i32⟩
  | .hbm, ⟨64, _⟩ => ⟨S4096, .i32⟩
  | .hbm, ⟨65, _⟩ => ⟨S4096x1, .i32⟩
  | .hbm, ⟨66, _⟩ => ⟨S1, .i32⟩
  | .hbm, ⟨67, _⟩ => ⟨S_, .i32⟩
  | .hbm, ⟨68, _⟩ => ⟨S4096x1, .i32⟩
  | .hbm, ⟨69, _⟩ => ⟨S4096x1, .i1⟩
  | .hbm, ⟨70, _⟩ => ⟨S1x1, .i32⟩
  | .hbm, ⟨71, _⟩ => ⟨S4096x1, .i32⟩
  | .hbm, ⟨72, _⟩ => ⟨S4096x1, .i1⟩
  | .hbm, ⟨73, _⟩ => ⟨S4096x1, .i1⟩
  | .hbm, ⟨74, _⟩ => ⟨S_, .i1⟩
  | .hbm, ⟨75, _⟩ => ⟨S4096, .i1⟩
  | .hbm, ⟨76, _⟩ => ⟨S4096x32, .f32⟩
  | .hbm, ⟨77, _⟩ => ⟨S4096x32, .i1⟩
  | .hbm, ⟨78, _⟩ => ⟨S_, .f32⟩
  | .hbm, ⟨79, _⟩ => ⟨S4096x32, .f32⟩
  | .hbm, ⟨80, _⟩ => ⟨S4096x32, .f32⟩
  | .hbm, ⟨81, _⟩ => ⟨S4x32x32x32, .f32⟩
  | .hbm, ⟨82, _⟩ => ⟨S4x32x32x32, .f32⟩
  | .hbm, ⟨83, _⟩ => ⟨S4x32x32x32, .f32⟩
  | .hbm, ⟨84, _⟩ => ⟨S4x32x32x32, .f32⟩
  | .hbm, ⟨85, _⟩ => ⟨S4x32x32x32, .f32⟩
  | .hbm, ⟨86, _⟩ => ⟨S4x32x32x32, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S4x32x32, .i32⟩
  | _, _ => ⟨S4x32x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_call0_v0 : Ref sig .tc := ⟨.hbm, 23, rfl⟩
abbrev main_call0_cst : Ref sig .tc := ⟨.hbm, 24, rfl⟩
abbrev main_call0_c : Ref sig .tc := ⟨.hbm, 25, rfl⟩
abbrev main_call0_v1_0 : Ref sig .tc := ⟨.hbm, 26, rfl⟩
abbrev main_v16 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_v17 : Ref sig .tc := ⟨.hbm, 33, rfl⟩
abbrev main_cst_2 : Ref sig .tc := ⟨.hbm, 34, rfl⟩
abbrev main_v18 : Ref sig .tc := ⟨.hbm, 35, rfl⟩
abbrev main_cst_3 : Ref sig .tc := ⟨.hbm, 36, rfl⟩
abbrev main_v19 : Ref sig .tc := ⟨.hbm, 37, rfl⟩
abbrev main_v20 : Ref sig .tc := ⟨.hbm, 38, rfl⟩
abbrev main_cst_4 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_cst_5 : Ref sig .tc := ⟨.hbm, 45, rfl⟩
abbrev main_v26 : Ref sig .tc := ⟨.hbm, 46, rfl⟩
abbrev main_v27 : Ref sig .tc := ⟨.hbm, 47, rfl⟩
abbrev main_cst_6 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_cst_7 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_call2_c : Ref sig .tc := ⟨.hbm, 58, rfl⟩
abbrev main_call2_v0 : Ref sig .tc := ⟨.hbm, 59, rfl⟩
abbrev main_call2_v1 : Ref sig .tc := ⟨.hbm, 60, rfl⟩
abbrev main_call2_c_0 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_call2_v5 : Ref sig .tc := ⟨.hbm, 65, rfl⟩
abbrev main_call2_c_1 : Ref sig .tc := ⟨.hbm, 66, rfl⟩
abbrev main_call2_c_2 : Ref sig .tc := ⟨.hbm, 67, rfl⟩
abbrev main_call2_v6 : Ref sig .tc := ⟨.hbm, 68, rfl⟩
abbrev main_call2_v7 : Ref sig .tc := ⟨.hbm, 69, rfl⟩
abbrev main_call2_v8 : Ref sig .tc := ⟨.hbm, 70, rfl⟩
abbrev main_call2_v9 : Ref sig .tc := ⟨.hbm, 71, rfl⟩
abbrev main_call2_v10 : Ref sig .tc := ⟨.hbm, 72, rfl⟩
abbrev main_call2_v11 : Ref sig .tc := ⟨.hbm, 73, rfl⟩
abbrev main_call2_c_3 : Ref sig .tc := ⟨.hbm, 74, rfl⟩
abbrev main_call2_v12 : Ref sig .tc := ⟨.hbm, 75, rfl⟩
abbrev main_call2_v13 : Ref sig .tc := ⟨.hbm, 76, rfl⟩
abbrev main_call2_v14 : Ref sig .tc := ⟨.hbm, 77, rfl⟩
abbrev main_call2_cst : Ref sig .tc := ⟨.hbm, 78, rfl⟩
abbrev main_call2_v15 : Ref sig .tc := ⟨.hbm, 79, rfl⟩
abbrev main_v36 : Ref sig .tc := ⟨.hbm, 80, rfl⟩
abbrev main_v37 : Ref sig .tc := ⟨.hbm, 81, rfl⟩
abbrev main_v38 : Ref sig .tc := ⟨.hbm, 82, rfl⟩
abbrev main_v39 : Ref sig .tc := ⟨.hbm, 83, rfl⟩
abbrev main_v40 : Ref sig .tc := ⟨.hbm, 84, rfl⟩
abbrev main_v41 : Ref sig .tc := ⟨.hbm, 85, rfl⟩
abbrev main_v42 : Ref sig .tc := ⟨.hbm, 86, rfl⟩
abbrev main_cst_8 : Ref sig .tc := ⟨.hbm, 87, rfl⟩
abbrev main_v43 : Ref sig .tc := ⟨.hbm, 88, rfl⟩
abbrev main_cst_9 : Ref sig .tc := ⟨.hbm, 89, rfl⟩
abbrev main_v44 : Ref sig .tc := ⟨.hbm, 90, rfl⟩
abbrev main_cst_10 : Ref sig .tc := ⟨.hbm, 91, rfl⟩
abbrev main_v45 : Ref sig .tc := ⟨.hbm, 92, rfl⟩
abbrev main_v46 : Ref sig .tc := ⟨.hbm, 93, rfl⟩

abbrev nD : Nat := 1
abbrev τ : Topo := Topo.v7x

variable {F : FTy → Type} [FloatOps F]
-- ==== Proof.Terms.lean ====
/- The computation after the nearest rows are known, and the reference's own choice of them, as functions of arrays. -/
module

public import proofs.«01_k».proof.Defs
public import proofs.«01_k».proof.Proof.Gen.ReferenceIdeal
public import Idealize.ShloMosaic.Adequacy
public import Idealize.ShloMosaic.Init

@[expose] public section

set_option maxRecDepth 16384

noncomputable section
namespace Cert.Proof

open Idealize.ShloMosaic Cert.ReferenceIdeal Cert.ReferenceIdeal.Gen

/-- The input, one row per position: the channel axis last, the other axes one. -/
def flat (z : FVec Ideal S4x32x32x32 .f32) : FVec Ideal S4096x32 .f32 :=
  shapeCast S4096x32 (transpose S4x32x32x32 [0, 2, 3, 1] z transposes_S4x32x32x32_S4x32x32x32_0_2_3_1) shapeCasts_S4x32x32x32_S4096x32

/-- The reference's distances: of every row of `f` to every row of the codebook `e`. -/
def refDist (f : FVec Ideal S4096x32 .f32) (e : FVec Ideal S8192x32 .f32) : FVec Ideal S4096x8192 .f32 :=
  subf
    (addf
      (broadcastInDim S4096x8192 ![0, 1] bcast_S4096x1_S4096x8192_0_1
        (broadcastInDim S4096x1 ![0] bcast_S4096_S4096x1_0
          (Host.reduceAdd (mulf f f) (constant S_ .f32 0x00000000#32) reducesTo_S4096x32_S4096_d1 h_S_)))
      (broadcastInDim S4096x8192 ![0, 1] bcast_S1x8192_S4096x8192_0_1
        (broadcastInDim S1x8192 ![1] bcast_S8192_S1x8192_1
          (Host.reduceAdd (mulf e e) (constant S_ .f32 0x00000000#32) reducesTo_S8192x32_S8192_d1 h_S_))))
    (Host.dotGeneral dot_S4096x32_S32x8192_S4096x8192_1_0_0_1_n_n none
      (mulf (broadcastInDim S4096x32 ![] bcast_S_S4096x32 (constant S_ .f32 0x40000000#32)) f)
      (transpose S32x8192 [1, 0] e transposes_S8192x32_S32x8192_1_0))

/-- The reference's index of the nearest codebook row, per row of distances. -/
def refIdx (d : FVec Ideal S4096x8192 .f32) : IVec S4096 32 := fun j =>
  (Host.argReduce (Cert.ReferenceIdeal.reducer_argmin_f32_i32 (F := Ideal)) d (iotaInDim S4096x8192 32 1)
    (constant S_ .f32 0x7F800000#32) (constantI S_ 32 0#32) reducesTo_S4096x8192_S4096_d1 h_S_ j).2

/-- The one-hot rows of the indices. -/
def oneHot (idx : IVec S4096 32) : FVec Ideal S4096x8192 .f32 :=
  uitofp .f32 (cmpi .eq
    (broadcastInDim S4096x8192 ![0, 1] bcast_S4096x1_S4096x8192_0_1 (broadcastInDim S4096x1 ![0] bcast_S4096_S4096x1_0 idx))
    (broadcastInDim S4096x8192 ![0, 1] bcast_S1x8192_S4096x8192_0_1 (iotaInDim S1x8192 32 1)))

/-- How many rows chose each codebook row: the one-hot rows summed. -/
def refCounts (idx : IVec S4096 32) : FVec Ideal S8192 .f32 :=
  Host.reduceAdd (oneHot idx) (constant S_ .f32 0x00000000#32) reducesTo_S4096x8192_S8192_d0 h_S_

/-- The sum of the rows that chose each codebook row: the one-hot rows, transposed, times the rows. -/
def refSums (f : FVec Ideal S4096x32 .f32) (idx : IVec S4096 32) : FVec Ideal S8192x32 .f32 :=
  Host.dotGeneral dot_S8192x4096_S4096x32_S8192x32_1_0_0_1_n_n none
    (transpose S8192x4096 [1, 0] (oneHot idx) transposes_S4096x8192_S8192x4096_1_0) f

/-- The moved codebook: the two running averages, and their quotient. -/
def codebook (cnt : FVec Ideal S8192 .f32) (ema : FVec Ideal S8192x32 .f32) (counts : FVec Ideal S8192 .f32)
    (sums : FVec Ideal S8192x32 .f32) : FVec Ideal S8192x32 .f32 :=
  Host.divf
    (addf (mulf ema (broadcastInDim S8192x32 ![] bcast_S_S8192x32 (constant S_ .f32 0x3F7D70A4#32)))
      (mulf (broadcastInDim S8192x32 ![] bcast_S_S8192x32 (constant S_ .f32 0x3C23D70A#32)) sums))
    (broadcastInDim S8192x32 ![0, 1] bcast_S8192x1_S8192x32_0_1
      (broadcastInDim S8192x1 ![0] bcast_S8192_S8192x1_0
        (addf
          (addf (mulf cnt (broadcastInDim S8192 ![] bcast_S_S8192 (constant S_ .f32 0x3F7D70A4#32)))
            (mulf (broadcastInDim S8192 ![] bcast_S_S8192 (constant S_ .f32 0x3C23D70A#32)) counts))
          (broadcastInDim S8192 ![] bcast_S_S8192 (constant S_ .f32 0x3727C5AC#32)))))

/-- A negative index counted from the end. -/
def wrapIdx (idx : IVec S4096 32) : IVec S4096 32 :=
  select (cmpi .slt idx (broadcastInDim S4096 ![] bcast_S_S4096 (constantI S_ 32 0#32)))
    (addi idx (broadcastInDim S4096 ![] bcast_S_S4096 (constantI S_ 32 8192#32))) idx

/-- The indices as a column. -/
def colIdx (idx : IVec S4096 32) : IVec S4096x1 32 := broadcastInDim S4096x1 ![0] bcast_S4096_S4096x1_0 (wrapIdx idx)

/-- The rows of a table at the indices; where an index lies outside the table, a fill. -/
def takeRows (tbl : FVec Ideal S8192x32 .f32) (idx : IVec S4096 32) : FVec Ideal S4096x32 .f32 :=
  select
    (broadcastInDim S4096x32 ![0] bcast_S4096_S4096x32_0
      (Host.reduce IntOp.andi
        (andi (cmpi .sge (colIdx idx) (broadcastInDim S4096x1 ![] bcast_S_S4096x1 (constantI S_ 32 0#32)))
          (cmpi .sle (colIdx idx) (broadcastInDim S4096x1 ![0, 1] bcast_S1x1_S4096x1_0_1
            (broadcastInDim S1x1 ![1] bcast_S1_S1x1_1 (constantI S1 32 8191#32)))))
        (constantI S_ 1 1#1) reducesTo_S4096x1_S4096_d1 h_S_))
    (Host.gather gather_S8192x32_S4096x1_S4096x32_1_0_n_n_0_1_132 tbl (colIdx idx))
    (broadcastInDim S4096x32 ![] bcast_S_S4096x32 (constant S_ .f32 0x7FC00000#32))

/-- The quantized input, laid out as the input is. -/
def quant (tbl : FVec Ideal S8192x32 .f32) (idx : IVec S4096 32) : FVec Ideal S4x32x32x32 .f32 :=
  transpose S4x32x32x32 [0, 3, 1, 2] (shapeCast S4x32x32x32 (takeRows tbl idx) shapeCasts_S4096x32_S4x32x32x32)
    transposes_S4x32x32x32_S4x32x32x32_0_3_1_2

/-- The first result: the quantized input, added as the input plus the difference. -/
def out0 (z q : FVec Ideal S4x32x32x32 .f32) : FVec Ideal S4x32x32x32 .f32 := addf z (subf q z)

/-- The second result: a quarter of the mean squared difference. -/
def out1 (z q : FVec Ideal S4x32x32x32 .f32) : FVec Ideal S_ .f32 :=
  mulf (constant S_ .f32 0x3E800000#32)
    (Host.divf
      (Host.reduceAdd (mulf (subf z q) (subf z q)) (constant S_ .f32 0x00000000#32) reducesTo_S4x32x32x32_S_d0_1_2_3 h_S_)
      (constant S_ .f32 0x48000000#32))

/-- The third result: the indices, laid out by position. -/
def out2 (idx : IVec S4096 32) : IVec S4x32x32 32 := shapeCast S4x32x32 idx shapeCasts_S4096_S4x32x32

end Cert.Proof
end
end
-- ==== Proof.RefRun.lean ====
/- The reference's run: its frame, and its results as functions of its arguments. -/
module

public import proofs.«01_k».proof.Proof.Terms
public import Idealize.ShloMosaic.Lib.Claim
public import Idealize.ShloMosaic.Lib.StableHlo.ReadAt

@[expose] public section

set_option maxRecDepth 16384

noncomputable section
namespace Cert.Proof

open Idealize.ShloMosaic Idealize.ShloMosaic.TcCoe Idealize.ShloMosaic.Tactic Idealize.SL.Sem Cert.ReferenceIdeal

/-- The reference's indices, from its first two arguments. -/
def refChoice (z : FVec Ideal S4x32x32x32 .f32) (e : FVec Ideal S8192x32 .f32) : IVec S4096 32 := refIdx (refDist (flat z) e)

/-- The reference's quantized input, from its four arguments. -/
def refQuant (z : FVec Ideal S4x32x32x32 .f32) (e : FVec Ideal S8192x32 .f32) (cnt : FVec Ideal S8192 .f32)
    (ema : FVec Ideal S8192x32 .f32) : FVec Ideal S4x32x32x32 .f32 :=
  quant (codebook cnt ema (refCounts (refChoice z e)) (refSums (flat z) (refChoice z e))) (refChoice z e)

variable (m : (ℓ : Loc nD τ sig) → Buf (Elt Ideal) ℓ) (ρ : Dev nD → PrngReg)

set_option maxHeartbeats 1000000 in
/-- The reference's run ends with its three results at the functions above of its arguments, and its arguments unchanged. -/
theorem run_R : θ_run (defs (F := Ideal)) (onTc (τ := τ) (main (F := Ideal))) ⟨m, fun _ => 0, ρ⟩ (fun r => ∀ c : Dev nD,
      r.2.mem ((c.tc : Thread nD τ).loc main_v40) = out0 (m ((c.tc : Thread nD τ).loc main_arg0)) (refQuant (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_v45) = out1 (m ((c.tc : Thread nD τ).loc main_arg0)) (refQuant (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_v46) = out2 (refChoice (m ((c.tc : Thread nD τ).loc main_arg0)) (m ((c.tc : Thread nD τ).loc main_arg1)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  hlo_run
  rotate_left 2
  · refine congrArg out2 (a₂ := refChoice _ _) ?_
    simp -implicitDefEqProofs only [StableHlo.TRef.toBuf, StableHlo.TRef.ofBuf, cast_cast, cast_eq]
    clean_types
    unfold refChoice
    rfl
  all_goals
    simp -implicitDefEqProofs only [StableHlo.TRef.toBuf, StableHlo.TRef.ofBuf, cast_cast, cast_eq]
    clean_types
    unfold refQuant refChoice
    rfl

/-- The reference leaves its arguments alone and ends with every counter at zero. -/
theorem frame_R : @Cert.quiescent_ReferenceIdeal Cert.ReferenceIdeal.Gen.facts := by
  intro m ρ _
  exact (θ_run defs _ _).mono (fun r h => ⟨fun c => ⟨(h c).2.2.2.1, (h c).2.2.2.2.1, (h c).2.2.2.2.2.1, (h c).2.2.2.2.2.2⟩, sem_eq_zero_of_no_sems (by decide) r.2⟩)
    (run_R m ρ)

end Cert.Proof
end
end
-- ==== Proof.KerTail.lean ====
/- The kernel program's host operations after its region, as functions of what the region leaves. -/
module

public import proofs.«01_k».proof.Proof.Terms
public import proofs.«01_k».proof.Proof.Gen.KernelIdeal.Launch
public import Idealize.ShloMosaic.Lib.Claim
public import Idealize.ShloMosaic.Lib.StableHlo.ReadAt

@[expose] public section

set_option maxRecDepth 16384

noncomputable section
namespace Cert.Proof

open Idealize.ShloMosaic Idealize.ShloMosaic.TcCoe Idealize.ShloMosaic.Tactic Idealize.SL.Sem Cert.KernelIdeal Cert.KernelIdeal.Gen

/-- How many rows chose each codebook row: a one scattered for each row. -/
def kerCounts (idx : IVec S4096 32) : FVec Ideal S8192 .f32 :=
  Host.scatterAdd scatter_S8192_S4096x1_S4096_n_0_0_1
    (broadcastInDim S8192 ![] bcast_S_S8192 (constant S_ .f32 0x00000000#32)) (colIdx idx)
    (broadcastInDim S4096 ![] bcast_S_S4096 (constant S_ .f32 0x3F800000#32))

/-- The sum of the rows that chose each codebook row: the rows scattered. -/
def kerSums (f : FVec Ideal S4096x32 .f32) (idx : IVec S4096 32) : FVec Ideal S8192x32 .f32 :=
  Host.scatterAdd scatter_S8192x32_S4096x1_S4096x32_1_0_0_1
    (broadcastInDim S8192x32 ![] bcast_S_S8192x32 (constant S_ .f32 0x00000000#32)) (colIdx idx) f

/-- The kernel program's quantized input, from the rows, the indices and the running averages. -/
def kerQuant (f : FVec Ideal S4096x32 .f32) (idx : IVec S4096 32) (cnt : FVec Ideal S8192 .f32)
    (ema : FVec Ideal S8192x32 .f32) : FVec Ideal S4x32x32x32 .f32 :=
  quant (codebook cnt ema (kerCounts idx) (kerSums f idx)) idx

variable (V : Valuation τ sig (Elt Ideal))

/-- The host operations after the region, in order. -/
abbrev tailOps : List (HloOp τ sig (Elt Ideal)) := ([hostOps1, hostOps1_1, hostOps1_2] : List (List (HloOp τ sig (Elt Ideal)))).flatten

set_option maxHeartbeats 1000000 in
/-- The third result after the tail. -/
theorem tail_v45 : StableHlo.after tailOps V (Proc.devRef .tc main_v45) = out2 (V (Proc.devRef .tc main_v2)) := by
  simp only [tailOps, List.flatten_cons, List.flatten_nil, List.append_nil, List.cons_append, List.nil_append]
  after_results
  refine congrArg out2 ?_
  rfl

set_option maxHeartbeats 1000000 in
/-- The first result after the tail. -/
theorem tail_v39 : StableHlo.after tailOps V (Proc.devRef .tc main_v39)
    = out0 (V (Proc.devRef .tc main_arg0)) (kerQuant (V (Proc.devRef .tc main_v1)) (V (Proc.devRef .tc main_v2)) (V (Proc.devRef .tc main_arg2)) (V (Proc.devRef .tc main_arg3))) := by
  simp only [tailOps, List.flatten_cons, List.flatten_nil, List.append_nil, List.cons_append, List.nil_append]
  after_results
  simp -implicitDefEqProofs only [StableHlo.TRef.toBuf, StableHlo.TRef.ofBuf, cast_cast, cast_eq]
  clean_types
  unfold kerQuant
  rfl

set_option maxHeartbeats 1000000 in
/-- The second result after the tail. -/
theorem tail_v44 : StableHlo.after tailOps V (Proc.devRef .tc main_v44)
    = out1 (V (Proc.devRef .tc main_arg0)) (kerQuant (V (Proc.devRef .tc main_v1)) (V (Proc.devRef .tc main_v2)) (V (Proc.devRef .tc main_arg2)) (V (Proc.devRef .tc main_arg3))) := by
  simp only [tailOps, List.flatten_cons, List.flatten_nil, List.append_nil, List.cons_append, List.nil_append]
  after_results
  simp -implicitDefEqProofs only [StableHlo.TRef.toBuf, StableHlo.TRef.ofBuf, cast_cast, cast_eq]
  clean_types
  unfold kerQuant
  rfl

end Cert.Proof
end
end
-- ==== Proof.KerRun.lean ====
/- The kernel program's run: its results as functions of its arguments and of the array its region leaves. -/
module

public import proofs.«01_k».proof.Proof.KerTail
public import proofs.«01_k».proof.Proof.Gen.KernelIdeal.Frame

@[expose] public section

set_option maxRecDepth 16384

noncomputable section
namespace Cert.Proof

open Idealize.ShloMosaic Idealize.ShloMosaic.TcCoe Idealize.ShloMosaic.Tactic Idealize.SL.Sem Cert.KernelIdeal

variable (m : (ℓ : Loc nD τ sig) → Buf (Elt Ideal) ℓ) (ρ : Dev nD → PrngReg)

/-- The array of indices the region leaves. -/
def regionIdx (c : Dev nD) : IVec S4096 32 := (Gen.dats m 0 c).arrAt 2 (cfgs 0).N

/-- What the buffers hold at the region's end. -/
abbrev regionEnd (c : Dev nD) : Valuation τ sig (Elt Ideal) :=
  Pipeline.withArrays (cfgs 0).spec c (Gen.V0 m c) fun w => (Gen.dats m 0 c).arrAt w (cfgs 0).N

/-- No two windows share an array. -/
theorem arr_inj : Function.Injective (Pipeline.arrRef (cfgs 0).spec) := by decide

/-- The rows at the region's entry are the input's. -/
theorem entry_v1 (c : Dev nD) : Gen.V0 m c (Proc.devRef .tc main_v1) = flat (m ((c.tc : Thread nD τ).loc main_arg0)) := by
  show StableHlo.after Gen.hostOps0 (fun b => m (c, b)) (Proc.devRef .tc main_v1) = _
  after_results
  rfl

/-- The region leaves its indices in its result. -/
theorem end_v2 (c : Dev nD) : regionEnd m c (Proc.devRef .tc main_v2) = regionIdx m c :=
  Pipeline.withArrays_arr (cfgs 0).spec arr_inj c _ _ 2

/-- The region leaves the rows alone. -/
theorem end_v1 (c : Dev nD) : regionEnd m c (Proc.devRef .tc main_v1) = flat (m ((c.tc : Thread nD τ).loc main_arg0)) :=
  (Pipeline.withArrays_arr (cfgs 0).spec arr_inj c _ _ 0).trans
    (((Gen.dats m 0 c).arrAt_in 0 rfl _).trans (entry_v1 m c))

/-- The region leaves the input alone. -/
theorem end_arg0 (c : Dev nD) : regionEnd m c (Proc.devRef .tc main_arg0) = m ((c.tc : Thread nD τ).loc main_arg0) :=
  (Pipeline.withArrays_of_ne _ c _ _ main_arg0 (by exact (by decide : ∀ w, Pipeline.arrRef spec0 w ≠ main_arg0))).trans (Gen.V_main_arg0 m c)

/-- The region leaves the running counts alone. -/
theorem end_arg2 (c : Dev nD) : regionEnd m c (Proc.devRef .tc main_arg2) = m ((c.tc : Thread nD τ).loc main_arg2) :=
  (Pipeline.withArrays_of_ne _ c _ _ main_arg2 (by exact (by decide : ∀ w, Pipeline.arrRef spec0 w ≠ main_arg2))).trans (Gen.V_main_arg2 m c)

/-- The region leaves the running sums alone. -/
theorem end_arg3 (c : Dev nD) : regionEnd m c (Proc.devRef .tc main_arg3) = m ((c.tc : Thread nD τ).loc main_arg3) :=
  (Pipeline.withArrays_of_ne _ c _ _ main_arg3 (by exact (by decide : ∀ w, Pipeline.arrRef spec0 w ≠ main_arg3))).trans (Gen.V_main_arg3 m c)

/-- The program's quantized input. -/
def progQuant (c : Dev nD) : FVec Ideal S4x32x32x32 .f32 :=
  kerQuant (flat (m ((c.tc : Thread nD τ).loc main_arg0))) (regionIdx m c) (m ((c.tc : Thread nD τ).loc main_arg2)) (m ((c.tc : Thread nD τ).loc main_arg3))

/-- The program's run ends with its three results at these functions, and its arguments unchanged. -/
theorem run_K : θ_run (defs (F := Ideal)) (onTc (τ := τ) (main (F := Ideal))) ⟨m, fun _ => 0, ρ⟩ (fun r => ∀ c : Dev nD,
      r.2.mem ((c.tc : Thread nD τ).loc main_v39) = out0 (m ((c.tc : Thread nD τ).loc main_arg0)) (progQuant m c)
      ∧ r.2.mem ((c.tc : Thread nD τ).loc main_v44) = out1 (m ((c.tc : Thread nD τ).loc main_arg0)) (progQuant m c)
      ∧ r.2.mem ((c.tc : Thread nD τ).loc main_v45) = out2 (regionIdx m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine θ_run_mono (θ_run_and (Gen.run_main m ρ) (Gen.frame m ρ)) ?_
  rintro r ⟨h, hf⟩ c
  have hf := hf.1 c
  have h := h c
  refine ⟨?_, ?_, ?_, hf.1, hf.2.1, hf.2.2.1, hf.2.2.2⟩
  · refine ((h.2 main_v39 (Pipeline.mem_restRefs_of main_v39 (by decide) (by decide))).trans (tail_v39 (regionEnd m c))).trans ?_
    rw [end_v2, end_v1, end_arg0, end_arg2, end_arg3]; rfl
  · refine ((h.2 main_v44 (Pipeline.mem_restRefs_of main_v44 (by decide) (by decide))).trans (tail_v44 (regionEnd m c))).trans ?_
    rw [end_v2, end_v1, end_arg0, end_arg2, end_arg3]; rfl
  · refine ((h.2 main_v45 (Pipeline.mem_restRefs_of main_v45 (by decide) (by decide))).trans (tail_v45 (regionEnd m c))).trans ?_
    rw [end_v2]

end Cert.Proof
end
end
-- ==== Proof.FirstMin.lean ====
/- The first index at which a finite sequence of extended reals takes its minimum. -/
module

public import Mathlib.Data.EReal.Basic

@[expose] public section

namespace Cert.Proof

/-- `i` is the first index below `n` at which `d` takes the least of its values there. -/
def IsFirstMin (n : ℕ) (d : ℕ → EReal) (i : ℕ) : Prop :=
  i < n ∧ (∀ j < n, d i ≤ d j) ∧ ∀ j < i, d i < d j

/-- There is one first minimum. -/
theorem IsFirstMin.unique {n : ℕ} {d : ℕ → EReal} {i i' : ℕ} (h : IsFirstMin n d i) (h' : IsFirstMin n d i') : i = i' := by
  rcases lt_trichotomy i i' with hlt | heq | hgt
  · exact absurd (h'.2.2 i hlt) (not_lt.2 (h.2.1 i' h'.1))
  · exact heq
  · exact absurd (h.2.2 i' hgt) (not_lt.2 (h'.2.1 i h.1))

/-- What a search that has seen the indices below `n` holds: a value that is at most each of theirs, and the first index
    with that value; or, if nothing below the top was seen, the top and zero. -/
def Searched (n : ℕ) (d : ℕ → EReal) (v : EReal) (i : ℕ) : Prop :=
  (∀ j < n, v ≤ d j) ∧ (∀ j < i, v < d j) ∧ ((i < n ∧ d i = v) ∨ (v = ⊤ ∧ i = 0))

/-- Before anything is seen: the top and zero. -/
theorem searched_zero (d : ℕ → EReal) : Searched 0 d ⊤ 0 :=
  ⟨fun _ h => absurd h (Nat.not_lt_zero _), fun _ h => absurd h (Nat.not_lt_zero _), .inr ⟨rfl, rfl⟩⟩

/-- One block more: its least value `w`, first at `b` of the block, replaces the value held when it is smaller. -/
theorem Searched.step {n k : ℕ} {d : ℕ → EReal} {v : EReal} {i : ℕ} (h : Searched n d v i) {w : EReal} {b : ℕ}
    (hw : ∀ j < k, w ≤ d (n + j)) (hb : b < k ∧ d (n + b) = w ∧ ∀ j < b, d (n + j) ≠ w) :
    Searched (n + k) d (if w < v then w else v) (if w < v then n + b else i) := by
  obtain ⟨h1, h2, h3⟩ := h
  split
  · rename_i hlt
    refine ⟨fun j hj => ?_, fun j hj => ?_, .inl ⟨by omega, hb.2.1⟩⟩
    · by_cases hjn : j < n
      · exact (hlt.le).trans (h1 j hjn)
      · have := hw (j - n) (by omega)
        rwa [Nat.add_sub_cancel' (by omega)] at this
    · by_cases hjn : j < n
      · exact lt_of_lt_of_le hlt (h1 j hjn)
      · have h4 := hw (j - n) (by omega)
        have h5 := hb.2.2 (j - n) (by omega)
        rw [Nat.add_sub_cancel' (by omega)] at h4 h5
        exact lt_of_le_of_ne h4 (Ne.symm h5)
  · rename_i hlt
    refine ⟨fun j hj => ?_, h2, ?_⟩
    · by_cases hjn : j < n
      · exact h1 j hjn
      · have := hw (j - n) (by omega)
        rw [Nat.add_sub_cancel' (by omega)] at this
        exact (not_lt.1 hlt).trans this
    · rcases h3 with ⟨h, e⟩ | h
      · exact .inl ⟨by omega, e⟩
      · exact .inr h

/-- When everything has been seen, the index held is the first minimum. -/
theorem Searched.isFirstMin {n : ℕ} {d : ℕ → EReal} {v : EReal} {i : ℕ} (h : Searched n d v i) (hn : 0 < n) : IsFirstMin n d i := by
  obtain ⟨h1, h2, h3⟩ := h
  rcases h3 with ⟨h, e⟩ | ⟨rfl, rfl⟩
  · exact ⟨h, fun j hj => e ▸ h1 j hj, fun j hj => e ▸ h2 j hj⟩
  · exact ⟨hn, fun j hj => le_trans le_top (h1 j hj), fun j hj => absurd hj (Nat.not_lt_zero _)⟩

end Cert.Proof
end
-- ==== Proof.KerBody.lean ====
/- The region's search: at every grid point the scratch holds the least distance seen so far and the first row that has it. -/
module

public import proofs.«01_k».proof.Proof.Terms
public import proofs.«01_k».proof.Proof.FirstMin
public import proofs.«01_k».proof.Proof.Gen.KernelIdeal.Frame
public import Idealize.ShloMosaic.Lib.Pipeline.ValueKit
public import Idealize.ShloMosaic.Lib.Pipeline.ReadBack
public import Idealize.ShloMosaic.PureOps.Ideal.Laws

@[expose] public section

set_option maxRecDepth 16384

noncomputable section
namespace Cert.Proof

open Idealize.ShloMosaic Idealize.ShloMosaic.TcCoe Idealize.ShloMosaic.Tactic Idealize.SL.Sem Cert.KernelIdeal Cert.KernelIdeal.Gen

/-- The squared distance of row `r` of `f` to row `q` of the codebook `e`, expanded. -/
def gap (f : FVec Ideal S4096x32 .f32) (e : FVec Ideal S8192x32 .f32) (r : Fin 4096) (q : Fin 8192) : EReal :=
  ∑ x : Fin 32, f (ix2 r x) * f (ix2 r x) + ∑ x : Fin 32, e (ix2 q x) * e (ix2 q x)
    - 2 * ∑ k : Fin 32, f (ix2 r k) * e (ix2 q k)

/-- The same at every natural number: zero past the codebook. -/
def gapN (f : FVec Ideal S4096x32 .f32) (e : FVec Ideal S8192x32 .f32) (r : Fin 4096) (n : ℕ) : EReal :=
  if h : n < 8192 then gap f e r ⟨n, h⟩ else 0

/-- At a row of the codebook the two agree. -/
theorem gapN_fin (f : FVec Ideal S4096x32 .f32) (e : FVec Ideal S8192x32 .f32) (r : Fin 4096) (q : Fin 8192) :
    gapN f e r q.val = gap f e r q := dif_pos q.isLt

/-- The word of positive infinity is the top. -/
theorem top_bits : Ideal.ofBits FTy.f32 2139095040#32 = ⊤ := by
  simp [Ideal.ofBits, Ideal.ieee]

/-- The word of two is two. -/
theorem two_bits : Ideal.ofBits FTy.f32 1073741824#32 = 2 := by
  simp [Ideal.ofBits, Ideal.ieee]
  show ((8388608 : ℝ) : EReal) * (((2 ^ 22)⁻¹ : ℝ) : EReal) = ((2 : ℝ) : EReal)
  rw [← EReal.coe_mul]
  norm_num

/-- The least of a family from the top: at most every member, and one of them. -/
theorem fold_min_spec {n : ℕ} (hn : 0 < n) (g : Fin n → EReal) :
    (∀ x, Finset.fold min ⊤ g Finset.univ ≤ g x) ∧ ∃ x, g x = Finset.fold min ⊤ g Finset.univ := by
  constructor
  · intro x
    exact (Finset.le_fold_min _).1 le_rfl |>.2 x (Finset.mem_univ x)
  · rcases (Finset.fold_min_le (s := Finset.univ) (f := g) (b := ⊤) (Finset.fold min ⊤ g Finset.univ)).1 le_rfl with h | ⟨x, _, h⟩
    · refine ⟨⟨0, hn⟩, ?_⟩
      have := (Finset.le_fold_min (s := Finset.univ) (f := g) (b := ⊤) ⊤).1 h
      exact (top_le_iff.1 (this.2 ⟨0, hn⟩ (Finset.mem_univ _))).trans (top_le_iff.1 h).symm
    · exact ⟨x, le_antisymm h ((Finset.le_fold_min _).1 le_rfl |>.2 x (Finset.mem_univ x))⟩

/-- The signed minimum of two words, read as an integer. -/
theorem minsi_toInt (a b : BitVec 32) : (IntOp.minsi a b).toInt = min a.toInt b.toInt := by
  unfold IntOp.minsi
  simp only [BitVec.slt, BitVec.sle]
  split <;> simp_all <;> omega

/-- The signed minimum of the positions where `P` holds, the others at 8192: the first such position. -/
theorem fold_minsi_first (P : Fin 1024 → Prop) [DecidablePred P] (hP : ∃ x, P x) :
    ∃ b : Fin 1024, P b ∧ (∀ x, x < b → ¬ P x) ∧
      Finset.fold IntOp.minsi (2147483647#32) (fun x : Fin 1024 => if P x then BitVec.ofNat 32 x.val else 8192#32) Finset.univ = BitVec.ofNat 32 b.val := by
  classical
  obtain ⟨b, hb, hmin⟩ : ∃ b : Fin 1024, P b ∧ ∀ x, x < b → ¬ P x := by
    obtain ⟨b, hb⟩ := (Finset.univ.filter P).exists_minimal (by obtain ⟨x, hx⟩ := hP; exact ⟨x, by simp [hx]⟩)
    refine ⟨b, by simpa using hb.1, fun x hx hpx => ?_⟩
    exact absurd (hb.2 (by simpa using hpx) hx.le) (not_le.2 hx)
  refine ⟨b, hb, hmin, ?_⟩
  apply BitVec.eq_of_toInt_eq
  have hom := Finset.fold_hom (op := IntOp.minsi) (op' := (min : ℤ → ℤ → ℤ)) (m := fun w : BitVec 32 => w.toInt)
    (f := fun x : Fin 1024 => if P x then BitVec.ofNat 32 x.val else 8192#32) (b := 2147483647#32) (s := Finset.univ) minsi_toInt
  refine hom.symm.trans ?_
  have hs : ∀ x : Fin 1024, (BitVec.ofNat 32 x.val).toInt = x.val := fun x => by
    rw [BitVec.toInt_eq_toNat_of_lt] <;> simp <;> omega
  apply le_antisymm
  · refine (Finset.fold_min_le _).2 (.inr ⟨b, Finset.mem_univ _, ?_⟩)
    simp [hb]
  · refine (Finset.le_fold_min _).2 ⟨?_, fun x _ => ?_⟩
    · rw [hs]; have := b.isLt; simp; omega
    · rw [hs]
      split
      · next h => rw [hs]; exact_mod_cast not_lt.1 fun hlt => hmin x hlt h
      · have := b.isLt; simp; omega

/-- A distance of the body, element by element: its block's expanded squared distance. -/
theorem dist_apply (z : FVec Ideal S4096x32 .f32) (eb : FVec Ideal S1024x32 .f32) (j : S4096x1024.Idx) :
    k0_pay4 (F := Ideal) z eb j = ∑ x, z (ix2 (j 0) x) * z (ix2 (j 0) x) + ∑ x, eb (ix2 (j 1) x) * eb (ix2 (j 1) x)
      - 2 * ∑ k, z (ix2 (j 0) k) * eb (ix2 (j 1) k) := by
  unfold k0_pay4
  pointwise
  rw [two_bits]

/-- One block's search. -/
theorem block_step (i : grid0.Coords) (z : FVec Ideal S4096x32 .f32) (eb : FVec Ideal S1024x32 .f32)
    (u : FVec Ideal S4096 .f32) (v : IVec S4096 32) (j : S4096.Idx) (D : ℕ → EReal)
    (hD : ∀ x : Fin 1024, k0_pay4 (F := Ideal) z eb (ix2 (j 0) x) = D ((i 0).val * 1024 + x.val))
    (h : Searched ((i 0).val * 1024) D (u j) (v j).toNat) :
    Searched ((i 0).val * 1024 + 1024) D (k0_pay7 (F := Ideal) z eb u u j) (k0_pay8 (F := Ideal) i z eb u v j).toNat := by
  have h7 : k0_pay7 (F := Ideal) z eb u u j = if k0_pay5 (F := Ideal) z eb j < u j then k0_pay5 (F := Ideal) z eb j else u j := by
    unfold k0_pay7 k0_pay6
    generalize k0_pay5 (F := Ideal) z eb = d
    pointwise
  have h5 : k0_pay5 (F := Ideal) z eb j = Finset.fold min ⊤ (fun x : Fin 1024 => D ((i 0).val * 1024 + x.val)) Finset.univ := by
    rw [show (fun x : Fin 1024 => D ((i 0).val * 1024 + x.val)) = fun x => k0_pay4 (F := Ideal) z eb (ix2 (j 0) x) from funext fun x => (hD x).symm]
    unfold k0_pay5
    generalize k0_pay4 (F := Ideal) z eb = d
    pointwise
    rw [top_bits]
  obtain ⟨hle, hex⟩ := fold_min_spec (n := 1024) (by decide) (fun x : Fin 1024 => D ((i 0).val * 1024 + x.val))
  rw [← h5] at hle hex
  obtain ⟨b, hb, hfirst, hfold⟩ := fold_minsi_first (fun x : Fin 1024 => k0_pay4 (F := Ideal) z eb (ix2 (j 0) x) = k0_pay5 (F := Ideal) z eb j)
    (by obtain ⟨x, hx⟩ := hex; exact ⟨x, (hD x).trans hx⟩)
  have h8 : k0_pay8 (F := Ideal) i z eb u v j = if k0_pay5 (F := Ideal) z eb j < u j then
      IntOp.addi (BitVec.ofNat 32 b.val) (Scalar.muli (BitVec.ofNat 32 (i 0).val) 1024#32) else v j := by
    rw [← hfold]
    unfold k0_pay8 k0_pay6
    generalize k0_pay5 (F := Ideal) z eb = d
    generalize k0_pay4 (F := Ideal) z eb = d4
    pointwise
  have hi : (i 0).val < 8 := (i 0).isLt
  have hw : (IntOp.addi (BitVec.ofNat 32 b.val) (Scalar.muli (BitVec.ofNat 32 (i 0).val) 1024#32)).toNat = (i 0).val * 1024 + b.val := by
    have := b.isLt
    show (BitVec.ofNat 32 b.val + BitVec.ofNat 32 (i 0).val * 1024#32).toNat = _
    simp only [BitVec.toNat_add, BitVec.toNat_mul, BitVec.toNat_ofNat]
    omega
  have key := h.step (k := 1024) (w := k0_pay5 (F := Ideal) z eb j) (b := b.val) (fun x hx => hle ⟨x, hx⟩)
    ⟨b.isLt, (hD b).symm.trans hb, fun x hx heq => hfirst ⟨x, hx.trans b.isLt⟩ hx ((hD _).trans heq)⟩
  rw [h7, h8]
  split
  · next hlt => simp only [if_pos hlt] at key; rw [hw]; exact key
  · next hlt => simp only [if_neg hlt] at key; exact key

variable (m : (ℓ : Loc nD τ sig) → Buf (Elt Ideal) ℓ) (c : Dev nD)

/-- The grid has one axis, walked in order. -/
theorem coords_val : ∀ t : Fin cfg0.N, (grid0.coords t 0).val = t.val := by decide +kernel

/-- Every point sees all the rows. -/
theorem blk0 (t : Fin cfg0.N) : (iblk m c 0 t : Vec Ideal S4096x32 .f32) = V m c main_v1 := by
  have e0 : ∀ t : Fin cfg0.N, win0_0.index t 0 = 0 := by decide +kernel
  have e1 : ∀ t : Fin cfg0.N, win0_0.index t 1 = 0 := by decide +kernel
  funext j
  unfold iblk
  blk_simp
  refine congrArg (V m c main_v1) ?_
  blk_ext
  · rw [e0]; omega
  · rw [e1]; omega

/-- Point `t` sees the 1024 codebook rows from `1024 t` on. -/
theorem blk1 (t : Fin cfg0.N) (x : Fin 1024) (y : Fin 32) (h : t.val * 1024 + x.val < 8192) :
    (iblk m c 1 t : Vec Ideal S1024x32 .f32) (ix2 x y) = V m c main_arg1 (ix2 ⟨t.val * 1024 + x.val, h⟩ y) := by
  have e0 : ∀ t : Fin cfg0.N, win0_1.index t 0 = t.val := by decide +kernel
  have e1 : ∀ t : Fin cfg0.N, win0_1.index t 1 = 0 := by decide +kernel
  unfold iblk
  blk_simp
  refine congrArg (V m c main_arg1) ?_
  blk_ext
  · rw [e0]
  · rw [e1]; omega

/-- So the distances at point `t` are those to the codebook rows from `1024 t` on. -/
theorem blk_gap (t : Fin cfg0.N) (r : Fin 4096) (x : Fin 1024) :
    k0_pay4 (F := Ideal) (iblk m c 0 t) (iblk m c 1 t) (ix2 r x)
      = gapN (V m c main_v1) (V m c main_arg1) r ((grid0.coords t 0).val * 1024 + x.val) := by
  have ht : t.val < 8 := t.isLt
  have hx := x.isLt
  have h : t.val * 1024 + x.val < 8192 := by omega
  rw [coords_val, gapN, dif_pos h, gap, blk0, dist_apply]
  simp only [← blk1 m c t x _ h]
  rfl

/-- The last store writes the index held. -/
theorem pay1_apply (w : IVec S4096 32) : k0_pay1 w = w := by
  funext j
  unfold k0_pay1
  pointwise

/-- The first value held is the top. -/
theorem pay2_apply (j : S4096.Idx) : k0_pay2 (F := Ideal) j = ⊤ := by
  unfold k0_pay2
  pointwise
  rw [top_bits]

/-- The first index held is zero. -/
theorem pay3_apply (j : S4096.Idx) : k0_pay3 j = 0#32 := by
  unfold k0_pay3
  pointwise

/-- The first point searches its block from the top and zero. -/
theorem point_A (t : Fin cfg0.N) (h0 : t.val % 8 = 0) (h1 : ¬ t.val % 8 = 7) :
    (outsAt0 m c t.val t.isLt).2.1 = k0_pay7 (F := Ideal) (iblk m c 0 t) (iblk m c 1 t) (k0_pay2 (F := Ideal)) (k0_pay2 (F := Ideal))
    ∧ (outsAt0 m c t.val t.isLt).2.2 = k0_pay8 (F := Ideal) (grid0.coords t) (iblk m c 0 t) (iblk m c 1 t) (k0_pay2 (F := Ideal)) k0_pay3 := by
  rw [← pay1_apply (k0_pay8 (F := Ideal) (grid0.coords t) (iblk m c 0 t) (iblk m c 1 t) (k0_pay2 (F := Ideal)) k0_pay3)]
  constructor
  · funext j
    rw [outsAt0_A m c t h0 h1]
    frame_out
  · funext j
    rw [outsAt0_A m c t h0 h1]
    frame_out

/-- A middle point searches its block from what the point before left. -/
theorem point_B (t : Fin cfg0.N) (h0 : ¬ t.val % 8 = 0) (h1 : ¬ t.val % 8 = 7) (hp : t.val - 1 < cfg0.N) :
    (outsAt0 m c t.val t.isLt).2.1 = k0_pay7 (F := Ideal) (iblk m c 0 t) (iblk m c 1 t) (outsAt0 m c (t.val - 1) hp).2.1 (outsAt0 m c (t.val - 1) hp).2.1
    ∧ (outsAt0 m c t.val t.isLt).2.2 = k0_pay8 (F := Ideal) (grid0.coords t) (iblk m c 0 t) (iblk m c 1 t) (outsAt0 m c (t.val - 1) hp).2.1 (outsAt0 m c (t.val - 1) hp).2.2 := by
  rw [← pay1_apply (k0_pay8 (F := Ideal) (grid0.coords t) (iblk m c 0 t) (iblk m c 1 t) (outsAt0 m c (t.val - 1) hp).2.1 (outsAt0 m c (t.val - 1) hp).2.2)]
  constructor
  · funext j
    rw [outsAt0_B m c t h0 h1]
    frame_out
    simp only [read_unread_whole]
  · funext j
    rw [outsAt0_B m c t h0 h1]
    frame_out
    simp only [read_unread_whole]

/-- The last point does the same, and writes the index it holds to the result. -/
theorem point_C (t : Fin cfg0.N) (h0 : ¬ t.val % 8 = 0) (h1 : t.val % 8 = 7) (hp : t.val - 1 < cfg0.N) :
    (outsAt0 m c t.val t.isLt).2.1 = k0_pay7 (F := Ideal) (iblk m c 0 t) (iblk m c 1 t) (outsAt0 m c (t.val - 1) hp).2.1 (outsAt0 m c (t.val - 1) hp).2.1
    ∧ (outsAt0 m c t.val t.isLt).2.2 = k0_pay8 (F := Ideal) (grid0.coords t) (iblk m c 0 t) (iblk m c 1 t) (outsAt0 m c (t.val - 1) hp).2.1 (outsAt0 m c (t.val - 1) hp).2.2
    ∧ (outsAt0 m c t.val t.isLt).1 = k0_pay8 (F := Ideal) (grid0.coords t) (iblk m c 0 t) (iblk m c 1 t) (outsAt0 m c (t.val - 1) hp).2.1 (outsAt0 m c (t.val - 1) hp).2.2 := by
  rw [← pay1_apply (k0_pay8 (F := Ideal) (grid0.coords t) (iblk m c 0 t) (iblk m c 1 t) (outsAt0 m c (t.val - 1) hp).2.1 (outsAt0 m c (t.val - 1) hp).2.2)]
  refine ⟨?_, ?_, ?_⟩
  · funext j
    rw [outsAt0_C m c t h0 h1]
    frame_out
    simp only [read_unread_whole]
  · funext j
    rw [outsAt0_C m c t h0 h1]
    frame_out
    simp only [read_unread_whole]
  · funext j
    rw [outsAt0_C m c t h0 h1]
    frame_out
    simp only [read_unread_whole]

/-- After point `n` the scratch holds the search of the first `n + 1` blocks. -/
theorem searched_at (j : S4096.Idx) : ∀ (n : ℕ) (hn : n < cfg0.N),
    Searched (n * 1024 + 1024) (gapN (V m c main_v1) (V m c main_arg1) (j 0))
      ((outsAt0 m c n hn).2.1 j) ((outsAt0 m c n hn).2.2 j).toNat
  | 0, hn => by
    have hp := point_A m c ⟨0, hn⟩ (by rfl) (by change ¬ 0 % 8 = 7; decide)
    have hz : Searched ((grid0.coords ⟨0, hn⟩ 0).val * 1024) (gapN (V m c main_v1) (V m c main_arg1) (j 0)) (k0_pay2 (F := Ideal) j) (k0_pay3 j).toNat := by
      rw [coords_val, pay2_apply, pay3_apply]
      exact searched_zero _
    have := block_step _ _ _ _ _ j _ (fun x => blk_gap m c ⟨0, hn⟩ (j 0) x) hz
    rw [coords_val] at this
    rw [hp.1, hp.2]
    exact this
  | n + 1, hn => by
    have ih := searched_at j n (Nat.lt_of_succ_lt hn)
    have h8 : n + 1 < 8 := hn
    have hp : (outsAt0 m c (n + 1) hn).2.1 = k0_pay7 (F := Ideal) (iblk m c 0 ⟨n + 1, hn⟩) (iblk m c 1 ⟨n + 1, hn⟩) (outsAt0 m c n (Nat.lt_of_succ_lt hn)).2.1 (outsAt0 m c n (Nat.lt_of_succ_lt hn)).2.1
        ∧ (outsAt0 m c (n + 1) hn).2.2 = k0_pay8 (F := Ideal) (grid0.coords ⟨n + 1, hn⟩) (iblk m c 0 ⟨n + 1, hn⟩) (iblk m c 1 ⟨n + 1, hn⟩) (outsAt0 m c n (Nat.lt_of_succ_lt hn)).2.1 (outsAt0 m c n (Nat.lt_of_succ_lt hn)).2.2 := by
      have h0 : ¬ (n + 1) % 8 = 0 := by omega
      by_cases h1 : (n + 1) % 8 = 7
      · have := point_C m c ⟨n + 1, hn⟩ h0 h1 (Nat.lt_of_succ_lt hn)
        exact ⟨this.1, this.2.1⟩
      · exact point_B m c ⟨n + 1, hn⟩ h0 h1 (Nat.lt_of_succ_lt hn)
    have hz : Searched ((grid0.coords ⟨n + 1, hn⟩ 0).val * 1024) (gapN (V m c main_v1) (V m c main_arg1) (j 0))
        ((outsAt0 m c n (Nat.lt_of_succ_lt hn)).2.1 j) ((outsAt0 m c n (Nat.lt_of_succ_lt hn)).2.2 j).toNat := by
      rw [coords_val]
      exact (by ring : n * 1024 + 1024 = (n + 1) * 1024) ▸ ih
    have := block_step _ _ _ _ _ j _ (fun x => blk_gap m c ⟨n + 1, hn⟩ (j 0) x) hz
    rw [coords_val] at this
    rw [hp.1, hp.2]
    exact this

/-- The array the region leaves holds, for every row, the first codebook row at the least distance. -/
theorem region_firstMin (j : S4096.Idx) :
    IsFirstMin 8192 (gapN (V m c main_v1) (V m c main_arg1) (j 0)) (((dats m 0 c).arrAt 2 (cfgs 0).N : IVec S4096 32) j).toNat := by
  have hE : ((dats m 0 c).arrAt 2 (cfgs 0).N : IVec S4096 32) = (outsAt0 m c 7 t0_7.isLt).2.2 := by
    refine ((dats m 0 c).arrAt_eq_of_after_last 2 t0_7 (by decide +kernel) _ fun j => ?_)
    blk_simp
    rw [after0_2]
    have := point_C m c t0_7 (by decide) (by rfl) (by decide)
    exact (congrFun this.2.2 j).trans (congrFun this.2.1 j).symm
  rw [hE]
  exact (searched_at m c j 7 t0_7.isLt).isFirstMin (by decide)

end Cert.Proof
end
end
-- ==== Proof.RefArgmin.lean ====
/- The reference's choice: its fold over a row's pairs of distance and position leaves the first position at the least distance. -/
module

public import proofs.«01_k».proof.Proof.KerBody

@[expose] public section

set_option maxRecDepth 16384

noncomputable section
namespace Cert.Proof

open Idealize.ShloMosaic Cert.ReferenceIdeal Cert.ReferenceIdeal.Gen

/-- What the fold holds after the positions in `S`. -/
def Folded (S : ℕ → Prop) (D : ℕ → EReal) (a : EReal × BitVec 32) : Prop :=
  (∀ n, S n → a.1 ≤ D n) ∧ (∀ n, S n → D n = a.1 → a.2.toNat ≤ n) ∧
    ((S a.2.toNat ∧ D a.2.toNat = a.1) ∨ (a.1 = ⊤ ∧ a.2 = 0#32))

/-- One pair against another: the smaller value, at equal values the smaller position. -/
theorem reducer_eq (a b : EReal × BitVec 32) (ha : a.2.toNat < 8192) (hb : b.2.toNat < 8192) :
    reducer_argmin_f32_i32 (F := Ideal) a b
      = if a.1 < b.1 then a else if a.1 = b.1 then (a.1, if a.2.toNat < b.2.toNat then a.2 else b.2) else b := by
  obtain ⟨v, i⟩ := a
  obtain ⟨w, n⟩ := b
  have hs : IntOp.cmpi .slt i n = if i.toNat < n.toNat then 1#1 else 0#1 := by
    have h : i.slt n = decide (i.toNat < n.toNat) := by
      rw [BitVec.slt, BitVec.toInt_eq_toNat_of_lt (by dsimp only at ha; omega), BitVec.toInt_eq_toNat_of_lt (by dsimp only at hb; omega)]
      simp
    by_cases h3 : i.toNat < n.toNat <;> simp [IntOp.cmpi, h, h3]
  show (Scalar.select (IntOp.ori (Ideal.cmp .olt v w) (Ideal.cmp .une v v)) v w,
    Scalar.select (IntOp.ori (IntOp.ori (Ideal.cmp .olt v w) (Ideal.cmp .une v v)) (IntOp.andi (Ideal.cmp .oeq v w) (IntOp.cmpi .slt i n))) i n) = _
  rw [hs]
  rcases lt_trichotomy v w with h1 | rfl | h1
  · by_cases h3 : i.toNat < n.toNat <;> simp [Ideal.cmp, Scalar.select, IntOp.ori, IntOp.andi, h1, h1.ne, h3]
  · by_cases h3 : i.toNat < n.toNat <;> simp [Ideal.cmp, Scalar.select, IntOp.ori, IntOp.andi, h3]
  · simp [Ideal.cmp, Scalar.select, IntOp.ori, IntOp.andi, h1.ne', not_lt.2 h1.le]

/-- One pair more keeps what the fold holds. -/
theorem Folded.step {S : ℕ → Prop} {D : ℕ → EReal} {a b : EReal × BitVec 32} (h : Folded S D a)
    (ha : a.2.toNat < 8192) (hb : b.2.toNat < 8192) (hD : b.1 = D b.2.toNat) :
    Folded (fun n => S n ∨ n = b.2.toNat) D (reducer_argmin_f32_i32 (F := Ideal) a b)
      ∧ (reducer_argmin_f32_i32 (F := Ideal) a b).2.toNat < 8192 := by
  rw [reducer_eq a b ha hb]
  obtain ⟨v, i⟩ := a
  obtain ⟨w, k⟩ := b
  obtain ⟨h1, h2, h3⟩ := h
  dsimp only at *
  split
  · next hlt =>
    refine ⟨⟨?_, ?_, ?_⟩, ha⟩
    · rintro n (hn | rfl)
      · exact h1 n hn
      · exact hD ▸ hlt.le
    · rintro n (hn | rfl) e
      · exact h2 n hn e
      · exact absurd (hD.trans e) hlt.ne'
    · rcases h3 with h | h
      · exact .inl ⟨.inl h.1, h.2⟩
      · exact .inr h
  · next hlt =>
    split
    · next heq =>
      subst heq
      refine ⟨⟨?_, ?_, ?_⟩, ?_⟩
      · rintro n (hn | rfl)
        · exact h1 n hn
        · exact hD.le
      · rintro n (hn | rfl) e
        · have := h2 n hn e
          dsimp only
          split <;> omega
        · dsimp only
          split <;> omega
      · dsimp only
        split
        · rcases h3 with h | h
          · exact .inl ⟨.inl h.1, h.2⟩
          · exact .inr h
        · exact .inl ⟨.inr rfl, hD.symm⟩
      · dsimp only
        split <;> assumption
    · next hne =>
      have hgt : w < v := lt_of_le_of_ne (not_lt.1 hlt) (Ne.symm hne)
      refine ⟨⟨?_, ?_, ?_⟩, hb⟩
      · rintro n (hn | rfl)
        · exact hgt.le.trans (h1 n hn)
        · exact hD.le
      · rintro n (hn | rfl) e
        · exact absurd (h1 n hn) (not_le.2 (e ▸ hgt))
        · exact le_rfl
      · exact .inl ⟨.inr rfl, hD.symm⟩

/-- The fold over a list of pairs. -/
theorem folded_list (D : ℕ → EReal) : ∀ (L : List (EReal × BitVec 32)) (S : ℕ → Prop) (a : EReal × BitVec 32),
    Folded S D a → a.2.toNat < 8192 → (∀ p ∈ L, p.2.toNat < 8192 ∧ p.1 = D p.2.toNat) →
    Folded (fun n => S n ∨ ∃ p ∈ L, n = p.2.toNat) D (L.foldl (reducer_argmin_f32_i32 (F := Ideal)) a)
      ∧ (L.foldl (reducer_argmin_f32_i32 (F := Ideal)) a).2.toNat < 8192
  | [], S, a, h, ha, _ => by simpa using ⟨h, ha⟩
  | p :: L, S, a, h, ha, hL => by
    have hp := hL p (by simp)
    have hs := h.step ha hp.1 hp.2
    have := folded_list D L _ _ hs.1 hs.2 (fun q hq => hL q (by simp [hq]))
    simpa [or_assoc] using this

/-- When every position was folded, the position held is the first minimum. -/
theorem Folded.isFirstMin {D : ℕ → EReal} {S : ℕ → Prop} {a : EReal × BitVec 32} (h : Folded S D a) (ha : a.2.toNat < 8192)
    (hS : ∀ n < 8192, S n) : IsFirstMin 8192 D a.2.toNat := by
  obtain ⟨h1, h2, h3⟩ := h
  have he : D a.2.toNat = a.1 := by
    rcases h3 with h | h
    · exact h.2
    · have h0 := h1 0 (hS 0 (by decide))
      rw [h.1] at h0
      rw [h.1, h.2]
      exact top_le_iff.1 h0
  refine ⟨ha, fun j hj => he ▸ h1 j (hS j hj), fun j hj => ?_⟩
  refine lt_of_le_of_ne (he ▸ h1 j (hS j (hj.trans ha))) fun e => ?_
  have := h2 j (hS j (hj.trans ha)) (e.symm.trans he)
  omega

/-- Doubling every term doubles the sum, infinities included. -/
theorem two_mul_sum (g : Fin 32 → EReal) : ∑ k, 2 * g k = 2 * ∑ k, g k := by
  have h2 : (2 : EReal) ≠ ⊤ := EReal.coe_ne_top 2
  have key : ∀ s : Finset (Fin 32), ∑ k ∈ s, 2 * g k = 2 * ∑ k ∈ s, g k := fun s => by
    induction s using Finset.cons_induction with
    | empty => simp
    | cons a s ha ih =>
      rw [Finset.sum_cons, Finset.sum_cons, ih, EReal.left_distrib_of_nonneg_of_ne_top (by norm_num) h2]
  exact key _

/-- The reference's distances are the expanded ones. -/
theorem refDist_apply (f : FVec Ideal S4096x32 .f32) (e : FVec Ideal S8192x32 .f32) (r : Fin 4096) (q : Fin 8192) :
    refDist f e (ix2 r q) = gap f e r q := by
  unfold refDist gap
  pointwise
  rw [two_bits, ← two_mul_sum]
  simp only [mul_assoc]

/-- The pairs folded for a row: one per position of the row. -/
theorem mem_rowPairs {α β : Type} {n0 n1 : ℕ} {t : Shape} (x : (⟨2, ![n0, n1]⟩ : Shape).Idx → α) (y : (⟨2, ![n0, n1]⟩ : Shape).Idx → β)
    (h : (⟨2, ![n0, n1]⟩ : Shape).ReducesTo [1] t) (j : t.Idx) (p : α × β) :
    p ∈ Host.argReduceFiber x y h j ↔
      ∃ k : Fin n1, p = (x (ix2 ⟨(j ⟨0, h.lt_r2_a1_0⟩).val, Shape.coordLt (j ⟨0, h.lt_r2_a1_0⟩) h.size_r2_a1_0⟩ k),
        y (ix2 ⟨(j ⟨0, h.lt_r2_a1_0⟩).val, Shape.coordLt (j ⟨0, h.lt_r2_a1_0⟩) h.size_r2_a1_0⟩ k)) := by
  unfold Host.argReduceFiber
  simp only [List.mem_map, List.mem_filter, List.mem_finRange, true_and, decide_eq_true_eq]
  constructor
  · rintro ⟨n, hn, rfl⟩
    obtain ⟨k, hk⟩ := (h.fiber_r2_a1 j _).1 hn
    exact ⟨k, by rw [hk]⟩
  · rintro ⟨k, rfl⟩
    refine ⟨(⟨2, ![n0, n1]⟩ : Shape).rowMajor (ix2 ⟨(j ⟨0, h.lt_r2_a1_0⟩).val, Shape.coordLt (j ⟨0, h.lt_r2_a1_0⟩) h.size_r2_a1_0⟩ k), ?_, ?_⟩
    · rw [Equiv.symm_apply_apply]
      exact (h.fiber_r2_a1 j _).2 ⟨k, rfl⟩
    · rw [Equiv.symm_apply_apply]

/-- A fold over pairs of every position and its distance, from the top and zero, leaves the first position at the least distance. -/
theorem fold_firstMin {N : ℕ} (h8 : N = 8192) (D : ℕ → EReal) (L : List (EReal × BitVec 32))
    (hL : ∀ p, p ∈ L ↔ ∃ q : Fin N, p = (D q.val, BitVec.ofNat 32 q.val)) :
    IsFirstMin 8192 D (L.foldl (reducer_argmin_f32_i32 (F := Ideal)) ((⊤ : EReal), 0#32)).2.toNat := by
  have hval : ∀ q : ℕ, q < 8192 → (BitVec.ofNat 32 q).toNat = q := fun q hq => by
    simp only [BitVec.toNat_ofNat]
    omega
  have h0 : Folded (fun _ => False) D ((⊤ : EReal), 0#32) := ⟨fun _ h => h.elim, fun _ h => h.elim, .inr ⟨rfl, rfl⟩⟩
  have := folded_list D L _ _ h0 (by decide) (by
    intro p hp
    obtain ⟨q, rfl⟩ := (hL p).1 hp
    dsimp only
    rw [hval _ (h8 ▸ q.isLt)]
    exact ⟨h8 ▸ q.isLt, rfl⟩)
  refine this.1.isFirstMin this.2 fun n hn => .inr ⟨(D n, BitVec.ofNat 32 n), (hL _).2 ⟨⟨n, h8 ▸ hn⟩, rfl⟩, ?_⟩
  exact (hval n hn).symm

/-- The same of the reduction itself, at any extents. -/
theorem argmin_firstMin {n0 N : ℕ} {t u : Shape} (h8 : N = 8192) (x : FVec Ideal (⟨2, ![n0, N]⟩ : Shape) .f32) (y : IVec (⟨2, ![n0, N]⟩ : Shape) 32)
    (ix : FVec Ideal u .f32) (iy : IVec u 32) (h : (⟨2, ![n0, N]⟩ : Shape).ReducesTo [1] t) (hu : 0 < u.numel) (j : t.Idx) (r : Fin n0)
    (hr : r.val = (j ⟨0, h.lt_r2_a1_0⟩).val) (D : ℕ → EReal) (hD : ∀ q : Fin N, x (ix2 r q) = D q.val)
    (hy : ∀ q : Fin N, y (ix2 r q) = BitVec.ofNat 32 q.val) (hix : ∀ k, ix k = (⊤ : EReal)) (hiy : ∀ k, iy k = 0#32) :
    IsFirstMin 8192 D (Host.argReduce (reducer_argmin_f32_i32 (F := Ideal)) x y ix iy h hu j).2.toNat := by
  rw [Ideal.argReduce_eq_reduce2, Host.reduce2_eq_foldl_fiber, hix, hiy]
  have hr' : (⟨(j ⟨0, h.lt_r2_a1_0⟩).val, Shape.coordLt (j ⟨0, h.lt_r2_a1_0⟩) h.size_r2_a1_0⟩ : Fin n0) = r := Fin.ext hr.symm
  refine fold_firstMin h8 D _ fun p => (mem_rowPairs x y h j p).trans (exists_congr fun q => ?_)
  rw [hr', hD, hy]

/-- The choice, as the reduction it is. -/
theorem refIdx_eq (d : FVec Ideal S4096x8192 .f32) : refIdx d = fun j => (Host.argReduce (reducer_argmin_f32_i32 (F := Ideal)) d (iotaInDim S4096x8192 32 1 : IVec S4096x8192 32)
    (constant S_ .f32 0x7F800000#32 : FVec Ideal S_ .f32) (constantI S_ 32 0#32) reducesTo_S4096x8192_S4096_d1 h_S_ j).2 := rfl

/-- The second coordinates. -/
theorem iota_apply (r : Fin 4096) (q : Fin 8192) : (iotaInDim S4096x8192 32 1 : IVec S4096x8192 32) (ix2 r q) = BitVec.ofNat 32 q.val := rfl

/-- The reduction starts at the top. -/
theorem start_value (k : S_.Idx) : (constant S_ .f32 0x7F800000#32 : FVec Ideal S_ .f32) k = (⊤ : EReal) := by
  pointwise
  exact top_bits

/-- The reduction starts at position zero. -/
theorem start_position (k : S_.Idx) : (constantI S_ 32 0#32) k = 0#32 := rfl

/-- The choice from an array of distances is the first minimum of the row. -/
theorem refIdx_firstMin (d : FVec Ideal S4096x8192 .f32) (D : ℕ → EReal) (j : S4096.Idx)
    (hD : ∀ q : Fin 8192, d (ix2 (j 0) q) = D q.val) : IsFirstMin 8192 D (refIdx d j).toNat := by
  rw [refIdx_eq]
  exact argmin_firstMin (n0 := 4096) (N := 8192) rfl d _ _ _ reducesTo_S4096x8192_S4096_d1 h_S_ j (j 0) rfl D hD (iota_apply (j 0)) start_value start_position

/-- The reference's choice of a row is the first codebook row at the least distance. -/
theorem ref_firstMin (f : FVec Ideal S4096x32 .f32) (e : FVec Ideal S8192x32 .f32) (j : S4096.Idx) :
    IsFirstMin 8192 (gapN f e (j 0)) (refIdx (refDist f e) j).toNat :=
  refIdx_firstMin _ _ j fun q => (refDist_apply f e (j 0) q).trans (gapN_fin f e (j 0) q).symm

end Cert.Proof
end
end
-- ==== Proof.Scatter.lean ====
/- The scattered counts and sums are the one-hot ones. -/
module

public import proofs.«01_k».proof.Proof.KerTail
public import Idealize.ShloMosaic.Lib.Pipeline.ValueKit
public import Idealize.ShloMosaic.Lib.Routing.OpsPair
public import Idealize.ShloMosaic.PureOps.Ideal.Laws

@[expose] public section

set_option maxRecDepth 16384

noncomputable section
namespace Cert.Proof

open Idealize.ShloMosaic Idealize.ShloMosaic.TcCoe Idealize.ShloMosaic.Tactic Idealize.SL.Sem Cert.KernelIdeal Cert.KernelIdeal.Gen

/-- The one scattered for row `r` lands at the entry its index word names. -/
theorem lands_vec (idx : IVec S4096x1 32) (r : Fin 4096) (x : Fin 8192) :
    scatter_S8192_S4096x1_S4096_n_0_0_1.resultIdx? (ix1 r) idx = some (ix1 x) ↔ (idx (ix2 r 0)).toInt = (x.val : Int) := by
  have from_word : scatter_S8192_S4096x1_S4096_n_0_0_1.start (ix1 r) idx 0 = (idx (ix2 r 0)).toInt :=
    congrArg (fun k => (idx k).toInt) (funext fun b => by match b with | ⟨0, _⟩ => rfl | ⟨1, _⟩ => rfl)
  have no_window : scatter_S8192_S4096x1_S4096_n_0_0_1.window (ix1 r) 0 = 0 := rfl
  refine (Routing.resultIdx?_ix1 _ (ix1 r) idx x).trans ?_
  rw [from_word, no_window, Nat.cast_zero, add_zero]

/-- Element `k` of the scattered row `r` lands in the row its index word names, at the same column. -/
theorem lands_row (idx : IVec S4096x1 32) (r : Fin 4096) (k : Fin 32) (x : Fin 8192) (y : Fin 32) :
    scatter_S8192x32_S4096x1_S4096x32_1_0_0_1.resultIdx? (ix2 r k) idx = some (ix2 x y) ↔ (idx (ix2 r 0)).toInt = (x.val : Int) ∧ k = y := by
  have from_word : scatter_S8192x32_S4096x1_S4096x32_1_0_0_1.start (ix2 r k) idx 0 = (idx (ix2 r 0)).toInt :=
    congrArg (fun k => (idx k).toInt) (funext fun b => by match b with | ⟨0, _⟩ => rfl | ⟨1, _⟩ => rfl)
  have from_zero : scatter_S8192x32_S4096x1_S4096x32_1_0_0_1.start (ix2 r k) idx 1 = 0 := rfl
  have no_window : scatter_S8192x32_S4096x1_S4096x32_1_0_0_1.window (ix2 r k) 0 = 0 := rfl
  have column : scatter_S8192x32_S4096x1_S4096x32_1_0_0_1.window (ix2 r k) 1 = k.val := rfl
  refine (Routing.resultIdx?_ix2 _ (ix2 r k) idx x y).trans ?_
  rw [from_word, from_zero, no_window, column, Fin.ext_iff]
  simp

/-- An index inside the table is not wrapped. -/
theorem colIdx_apply (idx : IVec S4096 32) (r : Fin 4096) (h : (idx (ix1 r)).toNat < 8192) : colIdx idx (ix2 r 0) = idx (ix1 r) := by
  unfold colIdx wrapIdx
  pointwise
  exact Routing.wrap_of_lt _ _ (by omega)

/-- A small word reads the same signed and unsigned. -/
theorem toInt_small (w : BitVec 32) (h : w.toNat < 8192) : w.toInt = w.toNat := by
  rw [BitVec.toInt_eq_toNat_of_lt (by omega)]

/-- The one-hot row of an index below the table's length: one at the index, zero elsewhere. -/
theorem oneHot_word (w : BitVec 32) (h : w.toNat < 8192) (x : Fin 8192) :
    (FloatOps.uitofp (F := Ideal) FTy.f32 (IntOp.cmpi CmpIPredicate.eq w (BitVec.ofNat 32 x.val)) : EReal) = if w.toInt = (x.val : Int) then 1 else 0 := by
  have hx := x.isLt
  have hiff : w = BitVec.ofNat 32 x.val ↔ w.toInt = (x.val : Int) := by
    rw [toInt_small w h]
    constructor
    · rintro rfl
      simp only [BitVec.toNat_ofNat]
      omega
    · intro e
      apply BitVec.eq_of_toNat_eq
      simp only [BitVec.toNat_ofNat]
      omega
  show (((IntOp.cmpi CmpIPredicate.eq w (BitVec.ofNat 32 x.val)).toNat : ℝ) : EReal) = _
  by_cases e : w.toInt = (x.val : Int)
  · rw [if_pos e]
    simp [IntOp.cmpi, hiff.2 e]
  · rw [if_neg e]
    simp [IntOp.cmpi, mt hiff.1 e]

/-- A sum over vector indices by the coordinate. -/
theorem sum_vec {N : ℕ} (g : (⟨1, ![N]⟩ : Shape).Idx → EReal) (P : (⟨1, ![N]⟩ : Shape).Idx → Prop) [DecidablePred P] :
    ∑ i ∈ Finset.univ.filter P, g i = ∑ i : Fin N, if P (ix1 i) then g (ix1 i) else 0 := by
  rw [Finset.sum_filter]
  refine (Fintype.sum_equiv ⟨fun i : Fin N => (ix1 i : (⟨1, ![N]⟩ : Shape).Idx), fun i => i 0, fun _ => rfl, fun i => ?_⟩ _ _ fun _ => rfl).symm
  funext a
  match a with
  | ⟨0, _⟩ => rfl

/-- A sum over matrix indices by the coordinates. -/
theorem sum_mat {N C : ℕ} (g : (⟨2, ![N, C]⟩ : Shape).Idx → EReal) (P : (⟨2, ![N, C]⟩ : Shape).Idx → Prop) [DecidablePred P] :
    ∑ i ∈ Finset.univ.filter P, g i = ∑ i : Fin N, ∑ k : Fin C, if P (ix2 i k) then g (ix2 i k) else 0 := by
  rw [Finset.sum_filter, ← Fintype.sum_prod_type']
  refine (Fintype.sum_equiv ⟨fun p : Fin N × Fin C => (ix2 p.1 p.2 : (⟨2, ![N, C]⟩ : Shape).Idx), fun i => (i 0, i 1), fun _ => rfl, fun i => ?_⟩ _ _ fun _ => rfl).symm
  funext a
  match a with
  | ⟨0, _⟩ => rfl
  | ⟨1, _⟩ => rfl

/-- Scattering a one for every row counts the rows as the one-hot sum does. -/
theorem counts_eq (idx : IVec S4096 32) (h : ∀ r : Fin 4096, (idx (ix1 r)).toNat < 8192) : kerCounts idx = refCounts idx := by
  funext x
  obtain ⟨x, rfl⟩ : ∃ y : Fin 8192, x = ix1 y := ⟨x 0, by funext a; match a with | ⟨0, _⟩ => rfl⟩
  have hR : refCounts idx (ix1 x) = ∑ r : Fin 4096, if (idx (ix1 r)).toInt = (x.val : Int) then (1 : EReal) else 0 := by
    unfold refCounts oneHot
    pointwise
    exact Finset.sum_congr rfl fun r _ => oneHot_word _ (h r) x
  rw [hR]
  unfold kerCounts
  generalize hz : (broadcastInDim S8192 ![] bcast_S_S8192 (constant S_ .f32 0x00000000#32) : FVec Ideal S8192 .f32) = zs
  generalize hu : (broadcastInDim S4096 ![] bcast_S_S4096 (constant S_ .f32 0x3F800000#32) : FVec Ideal S4096 .f32) = us
  have hz' : zs (ix1 x) = 0 := by
    rw [← hz]
    pointwise
  have hu' : ∀ r : Fin 4096, us (ix1 r) = 1 := fun r => by
    rw [← hu]
    pointwise
  show zs (ix1 x) + ∑ j ∈ Finset.univ.filter (fun j => scatter_S8192_S4096x1_S4096_n_0_0_1.resultIdx? j (colIdx idx) = some (ix1 x)), us j = _
  rw [hz', zero_add, sum_vec (N := 4096)]
  refine Finset.sum_congr rfl fun r _ => ?_
  refine if_congr ((lands_vec _ r x).trans ?_) (hu' r) rfl
  rw [colIdx_apply idx r (h r)]

/-- Scattering the rows sums them as the product with the one-hot rows does. -/
theorem sums_eq (f : FVec Ideal S4096x32 .f32) (idx : IVec S4096 32) (h : ∀ r : Fin 4096, (idx (ix1 r)).toNat < 8192) :
    kerSums f idx = refSums f idx := by
  funext x
  obtain ⟨x, y, rfl⟩ : ∃ (a : Fin 8192) (b : Fin 32), x = ix2 a b := ⟨x 0, x 1, by funext a; match a with | ⟨0, _⟩ => rfl | ⟨1, _⟩ => rfl⟩
  have hR : refSums f idx (ix2 x y) = ∑ r : Fin 4096, if (idx (ix1 r)).toInt = (x.val : Int) then f (ix2 r y) else 0 := by
    unfold refSums oneHot
    pointwise
    refine Finset.sum_congr rfl fun r _ => ?_
    have := oneHot_word _ (h r) x
    refine (congrArg (· * f (ix2 r y)) this).trans ?_
    split
    · exact one_mul _
    · exact zero_mul _
  rw [hR]
  unfold kerSums
  generalize hz : (broadcastInDim S8192x32 ![] bcast_S_S8192x32 (constant S_ .f32 0x00000000#32) : FVec Ideal S8192x32 .f32) = zs
  have hz' : zs (ix2 x y) = 0 := by
    rw [← hz]
    pointwise
  show zs (ix2 x y) + ∑ j ∈ Finset.univ.filter (fun j => scatter_S8192x32_S4096x1_S4096x32_1_0_0_1.resultIdx? j (colIdx idx) = some (ix2 x y)), f j = _
  rw [hz', zero_add, sum_mat (N := 4096) (C := 32)]
  refine Finset.sum_congr rfl fun r _ => ?_
  have hk : ∀ k : Fin 32, (if scatter_S8192x32_S4096x1_S4096x32_1_0_0_1.resultIdx? (ix2 r k) (colIdx idx) = some (ix2 x y) then f (ix2 r k) else 0)
      = if k = y then (if (idx (ix1 r)).toInt = (x.val : Int) then f (ix2 r y) else 0) else 0 := fun k => by
    have hl := lands_row (colIdx idx) r k x y
    rw [colIdx_apply idx r (h r)] at hl
    rw [if_congr hl rfl rfl, ite_and]
    by_cases e : k = y
    · subst e; simp
    · simp [e]
  rw [Finset.sum_congr rfl fun k _ => hk k, Finset.sum_ite_eq' Finset.univ y, if_pos (Finset.mem_univ y)]

end Cert.Proof
end
end
-- ==== Proof.Equal.lean ====
/- The kernel program and the reference end with the same results. -/
module

public import proofs.«01_k».proof.Proof.RefRun
public import proofs.«01_k».proof.Proof.KerRun
public import proofs.«01_k».proof.Proof.RefArgmin
public import proofs.«01_k».proof.Proof.Scatter

@[expose] public section

set_option maxRecDepth 16384

noncomputable section
namespace Cert.Proof

open Idealize.ShloMosaic Idealize.ShloMosaic.TcCoe Idealize.ShloMosaic.Tactic Idealize.SL.Sem

/-- The reference's indices are below the table's length. -/
theorem refChoice_lt (z : FVec Ideal Cert.KernelIdeal.S4x32x32x32 .f32) (e : FVec Ideal Cert.KernelIdeal.S8192x32 .f32) (j : Cert.KernelIdeal.S4096.Idx) :
    (refChoice z e j).toNat < 8192 := (ref_firstMin (flat z) e j).1

/-- With the reference's indices the scattered counts and sums give the reference's quantized input. -/
theorem quant_eq (z : FVec Ideal Cert.KernelIdeal.S4x32x32x32 .f32) (e : FVec Ideal Cert.KernelIdeal.S8192x32 .f32)
    (cnt : FVec Ideal Cert.KernelIdeal.S8192 .f32) (ema : FVec Ideal Cert.KernelIdeal.S8192x32 .f32) :
    kerQuant (flat z) (refChoice z e) cnt ema = refQuant z e cnt ema := by
  unfold kerQuant refQuant
  rw [counts_eq _ fun r => refChoice_lt z e _, sums_eq _ _ fun r => refChoice_lt z e _]

variable (m : (ℓ : Loc Cert.KernelIdeal.nD Cert.KernelIdeal.τ Cert.KernelIdeal.sig) → Buf (Elt Ideal) ℓ)

/-- The region's indices are the reference's. -/
theorem regionIdx_eq (c : Dev Cert.KernelIdeal.nD) :
    regionIdx m c = refChoice (m ((c.tc : Thread Cert.KernelIdeal.nD Cert.KernelIdeal.τ).loc Cert.KernelIdeal.main_arg0))
      (m ((c.tc : Thread Cert.KernelIdeal.nD Cert.KernelIdeal.τ).loc Cert.KernelIdeal.main_arg1)) := by
  funext j
  apply BitVec.eq_of_toNat_eq
  have hr := region_firstMin m c j
  have h1 : Cert.KernelIdeal.Gen.V m c Cert.KernelIdeal.main_v1 = flat (m ((c.tc : Thread Cert.KernelIdeal.nD Cert.KernelIdeal.τ).loc Cert.KernelIdeal.main_arg0)) := entry_v1 m c
  rw [h1, Cert.KernelIdeal.Gen.V_main_arg1 m c] at hr
  exact hr.unique (ref_firstMin _ _ j)

/-- Over the extended reals the kernel program and the reference end with equal results. -/
theorem algebraic : @Cert.algebraic_KernelIdeal_ReferenceIdeal Cert.KernelIdeal.Gen.facts Cert.ReferenceIdeal.Gen.facts := by
  intro m g m' g' _ hagree
  refine ⟨_, _, _, run_K m g, (θ_run Cert.ReferenceIdeal.defs _ _).mono (fun r h c => ?_) (run_R m' g')⟩
  obtain ⟨r0, r1, r2, a0, a1, a2, a3⟩ := h c
  obtain ⟨e0, e1, e2, e3⟩ := hagree c
  have hq : progQuant m c = refQuant (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3)) := by
    rw [e0, e1, e2, e3, ← quant_eq, ← regionIdx_eq m c]
    rfl
  refine ⟨r0.trans ?_, r1.trans ?_, r2.trans ?_, a0, a1, a2, a3⟩
  · rw [← hq, e0]
  · rw [← hq, e0]
  · rw [e0, e1, ← regionIdx_eq m c]

end Cert.Proof
end
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefRun
public import proofs.«01_k».proof.Proof.Equal
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, fun m ρ _ => Cert.Kernel.Gen.frame m ρ, fun m ρ _ => Cert.KernelIdeal.Gen.frame m ρ, frame_R, trivial, algebraic⟩

end Cert.Proof

end
